-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_labels_in_vocabulary_KernelIdeal [hPre_labels_in_vocabulary_KernelIdeal : Cert.Pre_labels_in_vocabulary_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_labels_in_vocabulary_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_labels_in_vocabulary_ReferenceIdeal [hPre_labels_in_vocabulary_ReferenceIdeal : Cert.Pre_labels_in_vocabulary_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labels_in_vocabulary_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_labels_in_vocabulary_KernelIdeal [hKernelIdeal : Cert.KernelIdeal.Facts] [hPre_labels_in_vocabulary_KernelIdeal : Cert.Pre_labels_in_vocabulary_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_labels_in_vocabulary_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_labels_in_vocabulary_ReferenceIdeal [hReferenceIdeal : Cert.ReferenceIdeal.Facts] [hPre_labels_in_vocabulary_ReferenceIdeal : Cert.Pre_labels_in_vocabulary_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_labels_in_vocabulary_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_labels_in_vocabulary_KernelIdeal [hKernelIdeal : Cert.KernelIdeal.Facts] [hReferenceIdeal : Cert.ReferenceIdeal.Facts] [hPre_labels_in_vocabulary_KernelIdeal : Cert.Pre_labels_in_vocabulary_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_labels_in_vocabulary_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![1024, 8192]⟩ ⟨2, ![1024, 16384]⟩ (Layout.meshBlock [2, 2] ![[], [1]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v26) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_labels_in_vocabulary_KernelIdeal : Cert.Pre_labels_in_vocabulary_KernelIdeal.Facts) (hPre_labels_in_vocabulary_ReferenceIdeal : Cert.Pre_labels_in_vocabulary_ReferenceIdeal.Facts),
    quiescent_Kernel (hKernel := hKernel)
    ∧ quiescent_KernelIdeal (hKernelIdeal := hKernelIdeal)
    ∧ quiescent_KernelIdeal_pre_labels_in_vocabulary_KernelIdeal (hKernelIdeal := hKernelIdeal) (hPre_labels_in_vocabulary_KernelIdeal := hPre_labels_in_vocabulary_KernelIdeal)
    ∧ quiescent_ReferenceIdeal (hReferenceIdeal := hReferenceIdeal)
    ∧ quiescent_ReferenceIdeal_pre_labels_in_vocabulary_ReferenceIdeal (hReferenceIdeal := hReferenceIdeal) (hPre_labels_in_vocabulary_ReferenceIdeal := hPre_labels_in_vocabulary_ReferenceIdeal)
    ∧ preserves_Kernel_KernelIdeal
    ∧ algebraic_KernelIdeal_ReferenceIdeal_pre_labels_in_vocabulary_KernelIdeal (hKernelIdeal := hKernelIdeal) (hReferenceIdeal := hReferenceIdeal) (hPre_labels_in_vocabulary_KernelIdeal := hPre_labels_in_vocabulary_KernelIdeal)
-- ==== Pre_labels_in_vocabulary_KernelIdeal.lean ====
abbrev S512x1024 : Shape := ⟨2, ![512, 1024]⟩
abbrev S1024x8192 : Shape := ⟨2, ![1024, 8192]⟩
abbrev S512 : Shape := ⟨1, ![512]⟩
abbrev S_ : Shape := ⟨0, ![]⟩

class Facts : Prop where
  bcast_S_S512 : S_.BroadcastsInDim S512 (![] : Fin 0 → Fin S512.rank)

variable [Facts]

def fn {F : FTy → Type} [FloatOps F] (main_arg0 : FVec F S512x1024 .f32) (main_arg1 : FVec F S1024x8192 .f32) (main_arg2 : IVec S512 32) : IVec S512 1 :=
  let main_c : IVec S_ 32 := constantI S_ 32 0#32
  let main_v0 : IVec S512 32 := broadcastInDim S512 ![] bcast_S_S512 main_c
  let main_v1 : IVec S512 1 := cmpi .sge main_arg2 main_v0
  let main_c_0 : IVec S_ 32 := constantI S_ 32 16384#32
  let main_v2 : IVec S512 32 := broadcastInDim S512 ![] bcast_S_S512 main_c_0
  let main_v3 : IVec S512 1 := cmpi .slt main_arg2 main_v2
  let main_v4 : IVec S512 1 := andi main_v1 main_v3
  main_v4
-- ==== Pre_labels_in_vocabulary_ReferenceIdeal.lean ====
abbrev S512x1024 : Shape := ⟨2, ![512, 1024]⟩
abbrev S1024x16384 : Shape := ⟨2, ![1024, 16384]⟩
abbrev S512 : Shape := ⟨1, ![512]⟩
abbrev S_ : Shape := ⟨0, ![]⟩

class Facts : Prop where
  bcast_S_S512 : S_.BroadcastsInDim S512 (![] : Fin 0 → Fin S512.rank)

variable [Facts]

def fn {F : FTy → Type} [FloatOps F] (main_arg0 : FVec F S512x1024 .f32) (main_arg1 : FVec F S1024x16384 .f32) (main_arg2 : IVec S512 32) : IVec S512 1 :=
  let main_c : IVec S_ 32 := constantI S_ 32 0#32
  let main_v0 : IVec S512 32 := broadcastInDim S512 ![] bcast_S_S512 main_c
  let main_v1 : IVec S512 1 := cmpi .sge main_arg2 main_v0
  let main_c_0 : IVec S_ 32 := constantI S_ 32 16384#32
  let main_v2 : IVec S512 32 := broadcastInDim S512 ![] bcast_S_S512 main_c_0
  let main_v3 : IVec S512 1 := cmpi .slt main_arg2 main_v2
  let main_v4 : IVec S512 1 := andi main_v1 main_v3
  main_v4
-- ==== Kernel.lean ====
abbrev S512x1024 : Shape := ⟨2, ![512, 1024]⟩
abbrev S1024x8192 : Shape := ⟨2, ![1024, 8192]⟩
abbrev S512 : Shape := ⟨1, ![512]⟩
abbrev S512x1 : Shape := ⟨2, ![512, 1]⟩
abbrev S1x512 : Shape := ⟨2, ![1, 512]⟩
abbrev S4x1024x1024 : Shape := ⟨3, ![4, 1024, 1024]⟩
abbrev S3x512 : Shape := ⟨2, ![3, 512]⟩
abbrev S3x3x512 : Shape := ⟨3, ![3, 3, 512]⟩
abbrev S16 : Shape := ⟨1, ![16]⟩
abbrev S3 : Shape := ⟨1, ![3]⟩
abbrev S1 : Shape := ⟨1, ![1]⟩
abbrev S_ : Shape := ⟨0, ![]⟩
abbrev S1x256x1024 : Shape := ⟨3, ![1, 256, 1024]⟩
abbrev S256x1024 : Shape := ⟨2, ![256, 1024]⟩
abbrev S1x1024x1024 : Shape := ⟨3, ![1, 1024, 1024]⟩
abbrev S1024x1024 : Shape := ⟨2, ![1024, 1024]⟩
abbrev S1x3x512 : Shape := ⟨3, ![1, 3, 512]⟩
abbrev S1x1x512 : Shape := ⟨3, ![1, 1, 512]⟩

abbrev nBuf : Space → Nat
  | .hbm => 6
  | .vmem => 6
  | .smem => 0
  | _ => 0

abbrev bufTy : (tb : Table) → Fin (tcTables nBuf tb) → BufTy
  | .hbm, ⟨0, _⟩ => ⟨S512x1024, .f32⟩
  | .hbm, ⟨1, _⟩ => ⟨S1024x8192, .f32⟩
  | .hbm, ⟨2, _⟩ => ⟨S512, .i32⟩
  | .hbm, ⟨3, _⟩ => ⟨S512x1, .i32⟩
  | .hbm, ⟨4, _⟩ => ⟨S1x512, .f32⟩
  | .hbm, ⟨5, _⟩ => ⟨S512, .f32⟩
  | .local _ .vmem, ⟨0, _⟩ => ⟨S512x1024, .f32⟩
  | .local _ .vmem, ⟨1, _⟩ => ⟨S512x1, .i32⟩
  | .local _ .vmem, ⟨2, _⟩ => ⟨S1x512, .f32⟩
  | .local _ .vmem, ⟨3, _⟩ => ⟨S4x1024x1024, .f32⟩
  | .local _ .vmem, ⟨4, _⟩ => ⟨S3x512, .f32⟩
  | .local _ .vmem, ⟨5, _⟩ => ⟨S3x3x512, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  (ofTc nBuf bufTy 1 25 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_off1 (d0 : Dev nD) (c0_i32 : BitVec 32) : Fin 2 → Nat :=
  let c0_i32_6 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c4096_i32 : BitVec 32 := 4096#32
  let v6 : BitVec 32 := Scalar.muli v2 c4096_i32
  let v7 : BitVec 32 := Scalar.addi v6 c0_i32
  ![0, v7.toNat]
def k0_off2 (d0 : Dev nD) (c0_i32_7 : BitVec 32) : Fin 2 → Nat :=
  let c256_i32_11 : BitVec 32 := 256#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c4096_i32 : BitVec 32 := 4096#32
  let v6 : BitVec 32 := Scalar.muli v2 c4096_i32
  let v13 : BitVec 32 := Scalar.addi v6 c0_i32_7
  ![256, v13.toNat]
def k0_off3 (d0 : Dev nD) (c0_i32_12 : BitVec 32) : Fin 2 → Nat :=
  let c512_i32_16 : BitVec 32 := 512#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c4096_i32 : BitVec 32 := 4096#32
  let v6 : BitVec 32 := Scalar.muli v2 c4096_i32
  let v19 : BitVec 32 := Scalar.addi v6 c0_i32_12
  ![512, v19.toNat]
def k0_off4 (d0 : Dev nD) (c0_i32_17 : BitVec 32) : Fin 2 → Nat :=
  let c768_i32_20 : BitVec 32 := 768#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c4096_i32 : BitVec 32 := 4096#32
  let v6 : BitVec 32 := Scalar.muli v2 c4096_i32
  let v25 : BitVec 32 := Scalar.addi v6 c0_i32_17
  ![768, v25.toNat]
def k0_dev1 (d0 : Dev nD) : Nat :=
  let c0_i32_81 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_80 : BitVec 32 := 2#32
  let v105 : BitVec 32 := Scalar.muli v2 c2_i32_80
  let v106 : BitVec 32 := Scalar.addi c0_i32_81 v105
  let c1_i32_78 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v104 : BitVec 32 := Scalar.subi c1_i32_78 v5
  let c1_i32_82 : BitVec 32 := 1#32
  let v107 : BitVec 32 := Scalar.muli v104 c1_i32_82
  let v108 : BitVec 32 := Scalar.addi v106 v107
  v108.toNat
def k0_dev2 (d0 : Dev nD) : Nat :=
  let c0_i32_86 : BitVec 32 := 0#32
  let c1_i32_83 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v109 : BitVec 32 := Scalar.subi c1_i32_83 v2
  let c2_i32_85 : BitVec 32 := 2#32
  let v110 : BitVec 32 := Scalar.muli v109 c2_i32_85
  let v111 : BitVec 32 := Scalar.addi c0_i32_86 v110
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_87 : BitVec 32 := 1#32
  let v112 : BitVec 32 := Scalar.muli v5 c1_i32_87
  let v113 : BitVec 32 := Scalar.addi v111 v112
  v113.toNat
def k0_dev3 (d0 : Dev nD) : Nat :=
  let c0_i32_92 : BitVec 32 := 0#32
  let c1_i32_88 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v114 : BitVec 32 := Scalar.subi c1_i32_88 v2
  let c2_i32_91 : BitVec 32 := 2#32
  let v116 : BitVec 32 := Scalar.muli v114 c2_i32_91
  let v117 : BitVec 32 := Scalar.addi c0_i32_92 v116
  let c1_i32_89 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v115 : BitVec 32 := Scalar.subi c1_i32_89 v5
  let c1_i32_93 : BitVec 32 := 1#32
  let v118 : BitVec 32 := Scalar.muli v115 c1_i32_93
  let v119 : BitVec 32 := Scalar.addi v117 v118
  v119.toNat
def k0_dev4 (d0 : Dev nD) : Nat :=
  let c0_i32_243 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_242 : BitVec 32 := 2#32
  let v353 : BitVec 32 := Scalar.muli v2 c2_i32_242
  let v354 : BitVec 32 := Scalar.addi c0_i32_243 v353
  let c1_i32_238 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v352 : BitVec 32 := Scalar.subi c1_i32_238 v5
  let c1_i32_244 : BitVec 32 := 1#32
  let v355 : BitVec 32 := Scalar.muli v352 c1_i32_244
  let v356 : BitVec 32 := Scalar.addi v354 v355
  v356.toNat
def k0_dev5 (d0 : Dev nD) : Nat :=
  let c0_i32_252 : BitVec 32 := 0#32
  let c1_i32_247 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v363 : BitVec 32 := Scalar.subi c1_i32_247 v2
  let c2_i32_251 : BitVec 32 := 2#32
  let v364 : BitVec 32 := Scalar.muli v363 c2_i32_251
  let v365 : BitVec 32 := Scalar.addi c0_i32_252 v364
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_253 : BitVec 32 := 1#32
  let v366 : BitVec 32 := Scalar.muli v5 c1_i32_253
  let v367 : BitVec 32 := Scalar.addi v365 v366
  v367.toNat
def k0_dev6 (d0 : Dev nD) : Nat :=
  let c0_i32_262 : BitVec 32 := 0#32
  let c1_i32_256 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v374 : BitVec 32 := Scalar.subi c1_i32_256 v2
  let c2_i32_261 : BitVec 32 := 2#32
  let v376 : BitVec 32 := Scalar.muli v374 c2_i32_261
  let v377 : BitVec 32 := Scalar.addi c0_i32_262 v376
  let c1_i32_257 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v375 : BitVec 32 := Scalar.subi c1_i32_257 v5
  let c1_i32_263 : BitVec 32 := 1#32
  let v378 : BitVec 32 := Scalar.muli v375 c1_i32_263
  let v379 : BitVec 32 := Scalar.addi v377 v378
  v379.toNat
abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S512x1024 : Shape := ⟨2, ![512, 1024]⟩
abbrev S1024x16384 : Shape := ⟨2, ![1024, 16384]⟩
abbrev S512 : Shape := ⟨1, ![512]⟩
abbrev S512x16384 : Shape := ⟨2, ![512, 16384]⟩
abbrev S_ : Shape := ⟨0, ![]⟩
abbrev S512x1 : Shape := ⟨2, ![512, 1]⟩
abbrev S512x2 : Shape := ⟨2, ![512, 2]⟩

abbrev nBuf : Space → Nat
  | .hbm => 36
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024x16384, .f32⟩
  | .hbm, ⟨2, _⟩ => ⟨S512, .i32⟩
  | .hbm, ⟨3, _⟩ => ⟨S512x16384, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S512x16384, .f32⟩
  | .hbm, ⟨8, _⟩ => ⟨S512x16384, .f32⟩
  | .hbm, ⟨9, _⟩ => ⟨S512x16384, .f32⟩
  | .hbm, ⟨10, _⟩ => ⟨S_, .f32⟩
  | .hbm, ⟨11, _⟩ => ⟨S512, .f32⟩
  | .hbm, ⟨12, _⟩ => ⟨S512x1, .f32⟩
  | .hbm, ⟨13, _⟩ => ⟨S512x1, .f32⟩
  | .hbm, ⟨14, _⟩ => ⟨S512x1, .f32⟩
  | .hbm, ⟨15, _⟩ => ⟨S512, .f32⟩
  | .hbm, ⟨16, _⟩ => ⟨S512, .i32⟩
  | .hbm, ⟨17, _⟩ => ⟨S_, .i32⟩
  | .hbm, ⟨18, _⟩ => ⟨S512, .i32⟩
  | .hbm, ⟨19, _⟩ => ⟨S512, .i1⟩
  | .hbm, ⟨20, _⟩ => ⟨S_, .i32⟩
  | .hbm, ⟨21, _⟩ => ⟨S512, .i32⟩
  | .hbm, ⟨22, _⟩ => ⟨S512, .i32⟩
  | .hbm, ⟨23, _⟩ => ⟨S512, .i32⟩
  | .hbm, ⟨24, _⟩ => ⟨S_, .i32⟩
  | .hbm, ⟨25, _⟩ => ⟨S512, .i32⟩
  | .hbm, ⟨26, _⟩ => ⟨S512, .i1⟩
  | .hbm, ⟨27, _⟩ => ⟨S_, .i32⟩
  | .hbm, ⟨28, _⟩ => ⟨S512, .i32⟩
  | .hbm, ⟨29, _⟩ => ⟨S512, .i32⟩
  | .hbm, ⟨30, _⟩ => ⟨S512, .i32⟩
  | .hbm, ⟨31, _⟩ => ⟨S512x1, .i32⟩
  | .hbm, ⟨32, _⟩ => ⟨S512x1, .i32⟩
  | .hbm, ⟨33, _⟩ => ⟨S512x2, .i32⟩
  | .hbm, ⟨34, _⟩ => ⟨S512, .f32⟩
  | .hbm, ⟨35, _⟩ => ⟨S512, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_v12 : Ref sig .tc := ⟨.hbm, 18, rfl⟩
abbrev main_v13 : Ref sig .tc := ⟨.hbm, 19, rfl⟩
abbrev main_c_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_2 : Ref sig .tc := ⟨.hbm, 24, rfl⟩
abbrev main_v17 : Ref sig .tc := ⟨.hbm, 25, rfl⟩
abbrev main_v18 : Ref sig .tc := ⟨.hbm, 26, rfl⟩
abbrev main_c_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== Proof.Xent.Cells.lean ====
/- The cells, peers and buffer geometry of the kernel: which device signals and sends to which, which semaphore
   each copy completes on, which elements of the weight scratch each of the sixteen weight copies writes, and what
   they hold once it has landed. -/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Regions
public import Idealize.ShloMosaic.Lib.Pipeline.Kit
public import Idealize.ShloMosaic.Lib.Rounds
public import Idealize.ShloMosaic.Lib.StableHlo
public import Idealize.ShloMosaic.Lib.Tactic
public import Idealize.ShloMosaic.PureOps
public import Idealize.ShloMosaic.Lib.Pipeline.RegionTalk
public import Idealize.ShloMosaic.Lib.ValueLayout

@[expose] public section

noncomputable section

namespace Cert.KernelIdeal.Xent

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

variable {F : FTy → Type} [FloatOps F]

/-! ## Peers -/

/-- The peer of device `c` in its `k`-th exchange: the neighbour along `y`, the neighbour along `x`, the diagonal
    one. Device `c` stands at mesh position `(c / 2, c % 2)`. -/
def peer (k : Fin 3) (c : Dev nD) : Dev nD := ⟨c.val ^^^ (k.val + 1), by
  have := c.isLt; have := k.isLt
  exact Nat.xor_lt_two_pow (n := 2) (by omega) (by omega)⟩
theorem peer_peer (k : Fin 3) (c : Dev nD) : peer k (peer k c) = c := by revert k c; decide
/-- Exchanging with the `k`-th peer is a permutation of the devices. -/
def swap (k : Fin 3) : Dev nD ≃ Dev nD := ⟨peer k, peer k, peer_peer k, peer_peer k⟩

theorem dev1_eq (c : Dev nD) : (⟨k0_dev1 c, k0_dev1_lt c⟩ : Dev nD) = peer 0 c := by revert c; decide
theorem dev2_eq (c : Dev nD) : (⟨k0_dev2 c, k0_dev2_lt c⟩ : Dev nD) = peer 1 c := by revert c; decide
theorem dev3_eq (c : Dev nD) : (⟨k0_dev3 c, k0_dev3_lt c⟩ : Dev nD) = peer 2 c := by revert c; decide
theorem dev4_eq (c : Dev nD) : (⟨k0_dev4 c, k0_dev4_lt c⟩ : Dev nD) = peer 0 c := by revert c; decide
theorem dev5_eq (c : Dev nD) : (⟨k0_dev5 c, k0_dev5_lt c⟩ : Dev nD) = peer 1 c := by revert c; decide
theorem dev6_eq (c : Dev nD) : (⟨k0_dev6 c, k0_dev6_lt c⟩ : Dev nD) = peer 2 c := by revert c; decide

/-! ## Memrefs and semaphores -/

abbrev wM : Memref sig .tc .hbm S1024x8192 .f32 := Memref.whole main_arg1
abbrev xM : Memref sig .tc .vmem S512x1024 .f32 := Memref.whole cc0_stg0_0
abbrev labM : Memref sig .tc .vmem S512x1 .i32 := Memref.whole cc0_stg1_0
abbrev outM : Memref sig .tc .vmem S1x512 .f32 := Memref.whole cc0_stg2_0
abbrev wbufM : Memref sig .tc .vmem S4x1024x1024 .f32 := Memref.whole cc0_scratch0
abbrev myM : Memref sig .tc .vmem S3x512 .f32 := Memref.whole cc0_scratch1
abbrev slotsM : Memref sig .tc .vmem S3x3x512 .f32 := Memref.whole cc0_scratch2

/-- The barrier semaphore. -/
abbrev barS : Sem sig := ⟨0, by decide⟩
/-- The kernel's own 22 DMA semaphores: sixteen for the weight copies, three for sending, three for receiving. -/
abbrev ownS (j : Fin 22) : DmaSem sig := ⟨3 + j.val, by have := j.isLt; show 3 + j.val < 25; omega⟩
abbrev wIx (k : Fin 16) : Fin 22 := ⟨k.val, by omega⟩
abbrev sIx (k : Fin 3) : Fin 22 := ⟨16 + k.val, by omega⟩
abbrev rIx (k : Fin 3) : Fin 22 := ⟨19 + k.val, by omega⟩

abbrev barCell (c : Dev nD) : GSem nD τ sig := ((c : Thread nD τ), .reg barS)
abbrev ownCell (c : Dev nD) (j : Fin 22) : GSem nD τ sig := ((c : Thread nD τ), .dma (ownS j))

theorem inbSlot (k : Fin 3) : ∀ a, (![k.val, 0, 0] : Fin 3 → ℕ) a + S1x3x512.size a ≤ S3x3x512.size a := by
  revert k; decide
/-- Slot `k` of the receive buffer. -/
abbrev slotM (k : Fin 3) : Memref sig .tc .vmem S3x512 .f32 :=
  (slotsM.slice (Rect.unit (s := S3x3x512) ![k.val, 0, 0] S1x3x512.size (inbSlot k)) (fun _ => rfl)).squeeze S3x512 squeezes_S1x3x512_S3x512

/-- The chunk of weight columns copy `k` belongs to, and its block of rows. -/
abbrev chunkOf (k : Fin 16) : Fin 4 := ⟨k.val / 4, by omega⟩
abbrev rowOf (k : Fin 16) : Fin 4 := ⟨k.val % 4, by omega⟩

theorem inbPiece (k : Fin 16) : ∀ a, (![k.val / 4, k.val % 4 * 256, 0] : Fin 3 → ℕ) a + S1x256x1024.size a ≤ S4x1024x1024.size a := by
  revert k; decide
theorem inbSrc (c : Dev nD) (k : Fin 16) : ∀ a, (![k.val % 4 * 256, c.val / 2 * 4096 + k.val / 4 * 1024] : Fin 2 → ℕ) a + S256x1024.size a ≤ S1024x8192.size a := by
  revert c k; decide
/-- Where copy `k` lands, and what it reads on device `c`. -/
abbrev pieceM (k : Fin 16) : Memref sig .tc .vmem S256x1024 .f32 :=
  (wbufM.slice (Rect.unit (s := S4x1024x1024) ![k.val / 4, k.val % 4 * 256, 0] S1x256x1024.size (inbPiece k)) (fun _ => rfl)).squeeze S256x1024 squeezes_S1x256x1024_S256x1024
abbrev srcM (c : Dev nD) (k : Fin 16) : Memref sig .tc .hbm S256x1024 .f32 :=
  wM.slice (Rect.unit (s := S1024x8192) ![k.val % 4 * 256, c.val / 2 * 4096 + k.val / 4 * 1024] S256x1024.size (inbSrc c k)) (fun _ => rfl)

theorem off_eq (c : Dev nD) (i : Fin 4) :
    k0_off1 c (BitVec.ofNat 32 (1024 * i.val)) = ![0, c.val / 2 * 4096 + i.val * 1024]
    ∧ k0_off2 c (BitVec.ofNat 32 (1024 * i.val)) = ![256, c.val / 2 * 4096 + i.val * 1024]
    ∧ k0_off3 c (BitVec.ofNat 32 (1024 * i.val)) = ![512, c.val / 2 * 4096 + i.val * 1024]
    ∧ k0_off4 c (BitVec.ofNat 32 (1024 * i.val)) = ![768, c.val / 2 * 4096 + i.val * 1024] := by
  revert c i; decide

/-! ## Amounts -/

/-- What a weight copy adds to its semaphore, and what an exchange adds. -/
abbrev Nw : ℕ := (pieceM 0).view.dmaCredit
abbrev Ns : ℕ := (slotM 0).view.dmaCredit
theorem Nw_pos : 0 < Nw := View.dmaCredit_pos _ (by decide)
theorem Ns_pos : 0 < Ns := View.dmaCredit_pos _ (by decide)
theorem Nw_eq (k : Fin 16) : (pieceM k).view.dmaCredit = Nw := rfl
theorem Ns_eq (k : Fin 3) : (slotM k).view.dmaCredit = Ns := rfl
theorem Ns_my : myM.view.dmaCredit = Ns := by decide

/-! ## What lands -/

/-- The weight scratch once all sixteen copies have landed: chunk `i` holds the 1024 columns of `w` starting at
    `4096 · x + 1024 · i`, where `x` is the device's first mesh coordinate. -/
def wbuf (c : Dev nD) (w : S1024x8192.Idx → Elt F .f32) : S4x1024x1024.Idx → Elt F .f32 :=
  fun t => w (ix2 (t 1) ⟨c.val / 2 * 4096 + (t 0).val * 1024 + (t 2).val, by
    have h0 := (t 0).isLt; have h2 := (t 2).isLt; have := c.isLt
    change (t 0).val < 4 at h0; change (t 2).val < 1024 at h2; change c.val < 4 at this
    show _ < 8192; omega⟩)

theorem piece_set (k : Fin 16) : (pieceM k).view.set = (Rect.unit (s := S4x1024x1024) ![k.val / 4, k.val % 4 * 256, 0] S1x256x1024.size (inbPiece k)).set := by
  show ((wbufM.view.slice _).reshape _ _).set = _
  rw [View.set_reshape]; exact View.set_slice_whole _ _

/-- A landed copy leaves its piece of the scratch at `wbuf`. -/
theorem landed_piece (c : Dev nD) (k : Fin 16) (w : S1024x8192.Idx → Elt F .f32) (fd : S4x1024x1024.Idx → Elt F .f32) :
    ∀ t ∈ (pieceM k).view.set, (pieceM k).view.write (Elt F) fd ((srcM c k).view.read (Elt F) w) Finset.univ t = wbuf c w t := by
  intro t ht
  obtain ⟨y, -, rfl⟩ := Finset.mem_map.mp ht
  rw [View.write_emb_of_mem _ _ (Finset.mem_univ y)]
  obtain ⟨i, j, rfl⟩ : ∃ (i : Fin 256) (j : Fin 1024), y = ix2 i j := ⟨y 0, y 1, eq_ix2 y⟩
  have e : (pieceM k).view.emb (ix2 i j) = ix3 (⟨k.val / 4, by omega⟩ : Fin 4) (⟨k.val % 4 * 256 + i.val, by omega⟩ : Fin 1024) j := by
    show (Rect.unit (s := S4x1024x1024) ![k.val / 4, k.val % 4 * 256, 0] S1x256x1024.size (inbPiece k)).emb (Shape.reshapeEquiv _ (ix2 i j)) = _
    rw [reshapeEquiv_ix2_1ab]
    funext a; apply Fin.ext
    fin_cases a <;> simp [ix3, Rect.emb_apply]
  rw [e]
  show w ((srcM c k).view.emb (ix2 i j)) = _
  unfold wbuf
  congr 1
  funext a; apply Fin.ext
  fin_cases a
  · show k.val % 4 * 256 + 1 * i.val = k.val % 4 * 256 + i.val; omega
  · show c.val / 2 * 4096 + k.val / 4 * 1024 + 1 * j.val = c.val / 2 * 4096 + k.val / 4 * 1024 + j.val; omega

end Cert.KernelIdeal.Xent

end
-- ==== Proof.Xent.Stats.lean ====
/- The values of the run, as functions of every device's inputs: the three rows each device computes from its own
   columns of the weight, what the receive slots hold after the exchange, and the row each device writes out. -/
module

public import proofs.«01_k».proof.Proof.Xent.Cells

@[expose] public section

noncomputable section

namespace Cert.KernelIdeal.Xent

open Idealize.ShloMosaic Idealize.ShloMosaic.TcCoe
open Idealize.ShloMosaic.ValueIdx
open Cert.KernelIdeal Cert.KernelIdeal.Gen

variable {F : FTy → Type} [FloatOps F]

/-- Every device's inputs as the body reads them: activations, its block of the weight, labels. -/
structure Ins (F : FTy → Type) where
  x : Dev nD → S512x1024.Idx → Elt F .f32
  w : Dev nD → S1024x8192.Idx → Elt F .f32
  lab : Dev nD → S512x1.Idx → Elt F .i32

/-! ## Mesh coordinates as the words the body computes -/

/-- The device's first mesh coordinate, its second, and the first of its columns within its block of the weight. -/
def meshX (c : Dev nD) : BitVec 32 := Scalar.remsi (Scalar.divsi (Dev.word c) 2#32) 2#32
def meshY (c : Dev nD) : BitVec 32 := Scalar.remsi (Scalar.divsi (Dev.word c) 1#32) 2#32
def colBase (c : Dev nD) : BitVec 32 := Scalar.muli (meshX c) 4096#32

/-! ## The four chunks -/

/-- Chunk `i` of the weight scratch once landed. -/
def chunk (c : Dev nD) (w : S1024x8192.Idx → Elt F .f32) (i : Fin 4) : Vec F S1x1024x1024 .f32 :=
  fun t => wbuf c w (ix3 i (t 1) (t 2))

section Rows
variable (I : Ins F) (c : Dev nD)

def xb : FVec F S512x1024 .bf16 := k0_pay2 (I.x c)
def lb : IVec S512x1 32 := k0_pay3 (F := F) (I.lab c)

/-- The running maximum, the running sum and the label's logit so far, after chunks 0, 1 and 2. -/
def m1 : FVec F S512x1 .f32 := k0_pay8 (xb I c) (k0_pay4 (F := F)) (chunk c (I.w c) 0)
def s1 : FVec F S512x1 .f32 := k0_pay9 (xb I c) (k0_pay4 (F := F)) (k0_pay5 (F := F)) (chunk c (I.w c) 0)
def t1 : FVec F S512x1 .f32 :=
  k0_pay11 (k0_pay6 (F := F)) (k0_pay7 (xb I c) (chunk c (I.w c) 0)) (k0_pay10 (meshY c) (colBase c) (lb I c)) (Scalar.ofBits .f32 0x00000000#32)
def m2 : FVec F S512x1 .f32 := k0_pay13 (xb I c) (m1 I c) (chunk c (I.w c) 1)
def s2 : FVec F S512x1 .f32 := k0_pay14 (xb I c) (m1 I c) (s1 I c) (chunk c (I.w c) 1)
def t2 : FVec F S512x1 .f32 := k0_pay15 (meshY c) (colBase c) (xb I c) (lb I c) (t1 I c) (chunk c (I.w c) 1)
def m3 : FVec F S512x1 .f32 := k0_pay17 (xb I c) (m2 I c) (chunk c (I.w c) 2)
def s3 : FVec F S512x1 .f32 := k0_pay18 (xb I c) (m2 I c) (s2 I c) (chunk c (I.w c) 2)
def t3 : FVec F S512x1 .f32 := k0_pay21 (t2 I c) (k0_pay16 (xb I c) (chunk c (I.w c) 2)) (k0_pay19 (meshY c) (colBase c)) (k0_pay20 (lb I c))

/-- The three rows sent: maximum, sum of exponentials below it, label's logit. -/
def rowM : FVec F S1x512 .f32 := k0_pay24 (xb I c) (m3 I c) (chunk c (I.w c) 3)
def rowS : FVec F S1x512 .f32 := k0_pay25 (xb I c) (m3 I c) (s3 I c) (chunk c (I.w c) 3)
def rowT : FVec F S1x512 .f32 := k0_pay26 (meshY c) (colBase c) (xb I c) (lb I c) (t3 I c) (chunk c (I.w c) 3)

/-- The send buffer: the three rows. -/
def stats : S3x512.Idx → Elt F .f32 := fun t =>
  if (t 0).val = 0 then rowM I c (ix2 (0 : Fin 1) (t 1)) else if (t 0).val = 1 then rowS I c (ix2 (0 : Fin 1) (t 1)) else rowT I c (ix2 (0 : Fin 1) (t 1))

/-- The receive buffer after the exchange: slot `k` holds the `k`-th peer's rows. -/
def slots : S3x3x512.Idx → Elt F .f32 := fun t => stats I (peer (t 0) c) (ix2 (t 1) (t 2))

/-- Row `j` of the send buffer, and row `j` of slot `k`, as the body reads them. -/
def myRow (j : Fin 3) : Vec F S1x512 .f32 := fun t => stats I c (ix2 j (t 1))
def slotRow (k j : Fin 3) : Vec F S1x1x512 .f32 := fun t => slots I c (ix3 k j (t 2))

/-- What the device writes out. -/
def outRow : FVec F S1x512 .f32 :=
  k0_pay1 (k0_pay32 (slotRow I c 2 2))
    (k0_pay33 (myRow I c 0) (k0_pay27 (slotRow I c 0 0)) (k0_pay28 (slotRow I c 1 0)) (k0_pay29 (slotRow I c 2 0)))
    (k0_pay34 (myRow I c 0) (k0_pay27 (slotRow I c 0 0)) (k0_pay28 (slotRow I c 1 0)) (k0_pay29 (slotRow I c 2 0))
      (myRow I c 1) (k0_pay30 (slotRow I c 0 1)) (k0_pay31 (slotRow I c 1 1)) (slotRow I c 2 1))
    (k0_pay35 (myRow I c 2) (slotRow I c 0 2) (slotRow I c 1 2))

end Rows

/-! ## What the loads read, the stores leave and the exchange lands -/

theorem inbChunk (i : Fin 4) : ∀ a, (![i.val, 0, 0] : Fin 3 → ℕ) a + S1x1024x1024.size a ≤ S4x1024x1024.size a := by
  revert i; decide
theorem inbMy (j : Fin 3) : ∀ a, (![j.val, 0] : Fin 2 → ℕ) a + S1x512.size a ≤ S3x512.size a := by
  revert j; decide
theorem inbSlotRow (k j : Fin 3) : ∀ a, (![k.val, j.val, 0] : Fin 3 → ℕ) a + S1x1x512.size a ≤ S3x3x512.size a := by
  revert k j; decide

theorem read_chunk (c : Dev nD) (w : S1024x8192.Idx → Elt F .f32) (i : Fin 4) :
    wbufM.view.readAt (Elt F) (Rect.unit (s := S4x1024x1024) ![i.val, 0, 0] S1x1024x1024.size (inbChunk i)).toLoadRect (wbuf c w) = chunk c w i := by
  funext t
  show wbuf c w ((Rect.unit (s := S4x1024x1024) ![i.val, 0, 0] S1x1024x1024.size (inbChunk i)).emb t) = wbuf c w (ix3 i (t 1) (t 2))
  congr 1
  funext a; apply Fin.ext
  have h0 := (t 0).isLt
  change (t 0).val < 1 at h0
  fin_cases a
  · show i.val + 1 * (t 0).val = i.val; omega
  · show 0 + 1 * (t 1).val = (t 1).val; omega
  · show 0 + 1 * (t 2).val = (t 2).val; omega

theorem read_my (I : Ins F) (c : Dev nD) (j : Fin 3) :
    myM.view.readAt (Elt F) (Rect.unit (s := S3x512) ![j.val, 0] S1x512.size (inbMy j)).toLoadRect (stats I c) = myRow I c j := by
  funext t
  show stats I c ((Rect.unit (s := S3x512) ![j.val, 0] S1x512.size (inbMy j)).emb t) = stats I c (ix2 j (t 1))
  congr 1
  funext a; apply Fin.ext
  have h0 := (t 0).isLt
  change (t 0).val < 1 at h0
  fin_cases a
  · show j.val + 1 * (t 0).val = j.val; omega
  · show 0 + 1 * (t 1).val = (t 1).val; omega

theorem read_slot (I : Ins F) (c : Dev nD) (k j : Fin 3) :
    slotsM.view.readAt (Elt F) (Rect.unit (s := S3x3x512) ![k.val, j.val, 0] S1x1x512.size (inbSlotRow k j)).toLoadRect (slots I c) = slotRow I c k j := by
  funext t
  show slots I c ((Rect.unit (s := S3x3x512) ![k.val, j.val, 0] S1x1x512.size (inbSlotRow k j)).emb t) = slots I c (ix3 k j (t 2))
  congr 1
  funext a; apply Fin.ext
  have h0 := (t 0).isLt
  change (t 0).val < 1 at h0
  have h1 := (t 1).isLt
  change (t 1).val < 1 at h1
  fin_cases a
  · show k.val + 1 * (t 0).val = k.val; omega
  · show j.val + 1 * (t 1).val = j.val; omega
  · show 0 + 1 * (t 2).val = (t 2).val; omega

/-- Writing a whole row `j` of the send buffer. -/
abbrev putRow (j : Fin 3) (f : S3x512.Idx → Elt F .f32) (r : FVec F S1x512 .f32) : S3x512.Idx → Elt F .f32 :=
  (myM.access (Rect.unit (s := S3x512) ![j.val, 0] S1x512.size (inbMy j))).write (Elt F) f r Finset.univ

theorem putRow_apply (j : Fin 3) (f : S3x512.Idx → Elt F .f32) (r : FVec F S1x512 .f32) (a : Fin 3) (b : Fin 512) :
    putRow j f r (ix2 a b) = if a = j then r (ix2 (0 : Fin 1) b) else f (ix2 a b) := by
  have he : ∀ b : Fin 512, (myM.access (Rect.unit (s := S3x512) ![j.val, 0] S1x512.size (inbMy j))).emb (ix2 (0 : Fin 1) b) = ix2 j b := by
    intro b
    funext a; apply Fin.ext
    fin_cases a
    · show j.val + 1 * 0 = j.val; omega
    · show 0 + 1 * b.val = b.val; omega
  by_cases h : a = j
  · subst h
    rw [if_pos rfl, ← he b]
    exact View.write_emb_of_mem _ _ (Finset.mem_univ _)
  · rw [if_neg h]
    refine View.write_of_not_mem _ _ _ fun hm => h ?_
    obtain ⟨y, -, hy⟩ := Finset.mem_map.mp hm
    obtain ⟨i, b', rfl⟩ : ∃ (i : Fin 1) (b' : Fin 512), y = ix2 i b' := ⟨y 0, y 1, eq_ix2 y⟩
    obtain rfl : i = 0 := Subsingleton.elim _ _
    have h2 := (he b').symm.trans hy
    exact (congrFun h2 0).symm

/-- The three stores leave the send buffer at `stats`, whatever it held. -/
theorem put_rows (I : Ins F) (c : Dev nD) (f : S3x512.Idx → Elt F .f32) :
    putRow 2 (putRow 1 (putRow 0 f (rowM I c)) (rowS I c)) (rowT I c) = stats I c := by
  funext t
  obtain ⟨a, b, rfl⟩ : ∃ (a : Fin 3) (b : Fin 512), t = ix2 a b := ⟨t 0, t 1, eq_ix2 t⟩
  rw [putRow_apply, putRow_apply, putRow_apply]
  show _ = if a.val = 0 then rowM I c (ix2 (0 : Fin 1) b) else if a.val = 1 then rowS I c (ix2 (0 : Fin 1) b) else rowT I c (ix2 (0 : Fin 1) b)
  fin_cases a <;> rfl

/-- A landed exchange leaves slot `k` of device `c` at the rows of its `k`-th peer. -/
theorem landed_slot (I : Ins F) (c : Dev nD) (k : Fin 3) (fd : S3x3x512.Idx → Elt F .f32) :
    ∀ t ∈ (slotM k).view.set, (slotM k).view.write (Elt F) fd (myM.view.read (Elt F) (stats I (peer k c))) Finset.univ t = slots I c t := by
  intro t ht
  obtain ⟨y, -, rfl⟩ := Finset.mem_map.mp ht
  rw [View.write_emb_of_mem _ _ (Finset.mem_univ y)]
  obtain ⟨i, j, rfl⟩ : ∃ (i : Fin 3) (j : Fin 512), y = ix2 i j := ⟨y 0, y 1, eq_ix2 y⟩
  have e : (slotM k).view.emb (ix2 i j) = ix3 k i j := by
    show (Rect.unit (s := S3x3x512) ![k.val, 0, 0] S1x3x512.size (inbSlot k)).emb (Shape.reshapeEquiv _ (ix2 i j)) = _
    rw [reshapeEquiv_ix2_1ab]
    funext a; apply Fin.ext
    fin_cases a <;> simp [ix3, Rect.emb_apply]
  rw [e]
  rfl

/-- The elements slot `k` and piece `k` consist of. -/
abbrev slotSet (k : Fin 3) : Finset S3x3x512.Idx := (slotM k).view.set
abbrev pieceSet (k : Fin 16) : Finset S4x1024x1024.Idx := (pieceM k).view.set

theorem slot_set (k : Fin 3) : (slotM k).view.set = (Rect.unit (s := S3x3x512) ![k.val, 0, 0] S1x3x512.size (inbSlot k)).set := by
  show ((slotsM.view.slice _).reshape _ _).set = _
  rw [View.set_reshape]; exact View.set_slice_whole _ _

/-! ## The pieces partition their buffers -/

theorem slot_disjoint (k k' : Fin 3) (h : k ≠ k') : Disjoint (slotM k).view.set (slotM k').view.set := by
  rw [slot_set, slot_set]
  refine Rect.unit_disjoint 0 ?_
  have : k.val ≠ k'.val := fun e => h (Fin.ext e)
  show k.val + 1 ≤ k'.val ∨ k'.val + 1 ≤ k.val
  omega

theorem slot_cover : Finset.univ.biUnion slotSet = Finset.univ := by
  ext t
  simp only [Finset.mem_biUnion, Finset.mem_univ, true_and, iff_true]
  refine ⟨t 0, ?_⟩
  have e : slotSet (t 0) = _ := slot_set (t 0)
  rw [e]
  refine (Rect.mem_set_unit ..).mpr ?_
  intro a
  fin_cases a
  · exact ⟨Nat.le_refl _, Nat.lt_succ_self _⟩
  · exact ⟨Nat.zero_le _, (t 1).isLt.trans_eq (Nat.zero_add _).symm⟩
  · exact ⟨Nat.zero_le _, (t 2).isLt.trans_eq (Nat.zero_add _).symm⟩

theorem piece_disjoint (k k' : Fin 16) (h : k ≠ k') : Disjoint (pieceM k).view.set (pieceM k').view.set := by
  rw [piece_set, piece_set]
  have hne : k.val ≠ k'.val := fun e => h (Fin.ext e)
  by_cases h0 : k.val / 4 = k'.val / 4
  · refine Rect.unit_disjoint 1 ?_
    show k.val % 4 * 256 + 256 ≤ k'.val % 4 * 256 ∨ k'.val % 4 * 256 + 256 ≤ k.val % 4 * 256
    omega
  · refine Rect.unit_disjoint 0 ?_
    show k.val / 4 + 1 ≤ k'.val / 4 ∨ k'.val / 4 + 1 ≤ k.val / 4
    omega

theorem piece_cover : Finset.univ.biUnion pieceSet = Finset.univ := by
  ext t
  simp only [Finset.mem_biUnion, Finset.mem_univ, true_and, iff_true]
  have h0 := (t 0).isLt
  change (t 0).val < 4 at h0
  have h1 := (t 1).isLt
  change (t 1).val < 1024 at h1
  have hk : (t 0).val * 4 + (t 1).val / 256 < 16 := by omega
  refine ⟨⟨(t 0).val * 4 + (t 1).val / 256, hk⟩, ?_⟩
  have e : pieceSet ⟨(t 0).val * 4 + (t 1).val / 256, hk⟩ = _ := piece_set _
  rw [e]
  refine (Rect.mem_set_unit ..).mpr ?_
  intro a
  fin_cases a
  · show ((t 0).val * 4 + (t 1).val / 256) / 4 ≤ (t 0).val ∧ (t 0).val < ((t 0).val * 4 + (t 1).val / 256) / 4 + 1
    omega
  · show ((t 0).val * 4 + (t 1).val / 256) % 4 * 256 ≤ (t 1).val ∧ (t 1).val < ((t 0).val * 4 + (t 1).val / 256) % 4 * 256 + 256
    omega
  · exact ⟨Nat.zero_le _, (t 2).isLt.trans_eq (Nat.zero_add _).symm⟩

end Cert.KernelIdeal.Xent

end
-- ==== Proof.Xent.Sched.lean ====
/- The kernel's protocol: what each semaphore counts, who pays it and what comes with the payment.

   Every device has one barrier cell, which each of its three peers pays one unit of, and 22 cells of its own: sixteen
   that its weight copies pay, three that its sends pay, three that its peers' copies pay. A peer's unit on the barrier
   brings the slot of that peer this device will write. A weight copy brings the piece of the scratch it filled, at
   named contents, and its source back. A landing brings the slot at the peer's rows. -/
module

public import proofs.«01_k».proof.Proof.Xent.Stats

@[expose] public section

noncomputable section

namespace Cert.KernelIdeal.Xent

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

variable {F : FTy → Type} [FloatOps F]

/-- The protocol's algebra: a duty is one of the three peers. Beside it, the staging cells' algebra. -/
abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Points-tos -/

/-- Slot `k` of device `c`, piece `k` of its weight scratch, the source of its weight copy `k` at that copy's share. -/
abbrev slotPts (c : Dev nD) (k : Fin 3) (f : S3x3x512.Idx → Elt F .f32) : sProp 𝕄 :=
  (slotM k).view.loc (c : Thread nD τ) ↦[(slotM k).view.set]{fullShare} f
abbrev piecePts (c : Dev nD) (k : Fin 16) (f : S4x1024x1024.Idx → Elt F .f32) : sProp 𝕄 :=
  (pieceM k).view.loc (c : Thread nD τ) ↦[(pieceM k).view.set]{fullShare} f
abbrev srcPts (c : Dev nD) (k : Fin 16) (w : S1024x8192.Idx → Elt F .f32) : sProp 𝕄 :=
  (srcM c k).view.loc (c : Thread nD τ) ↦[(srcM c k).view.set]{Transfers.shareTokN fullShare k.val} w
/-- The send buffer at the share of send `k`. -/
abbrev myPts (c : Dev nD) (k : Fin 3) (f : S3x512.Idx → Elt F .f32) : sProp 𝕄 :=
  myM.view.loc (c : Thread nD τ) ↦[myM.view.set]{Transfers.shareTokN fullShare k.val} f

/-! ## Payloads -/

variable (I : Ins F)

def barPay (c : Dev nD) (k : Fin 3) : sProp 𝕄 := iprop((∃ f, slotPts (peer k c) k f) ∗ reached ER (ownCell (peer k c) (rIx k)) 0)
def wPay (c : Dev nD) (k : Fin 16) : sProp 𝕄 := iprop(piecePts c k (wbuf c (I.w c)) ∗ srcPts c k (I.w c))
def sPay (c : Dev nD) (k : Fin 3) : sProp 𝕄 := myPts c k (stats I c)
def rPay (c : Dev nD) (k : Fin 3) : sProp 𝕄 := slotPts c k (slots I c)

def ownPay (c : Dev nD) (j : Fin 22) : sProp 𝕄 :=
  if h : j.val < 16 then wPay I c ⟨j.val, h⟩
  else if h : j.val < 19 then sPay I c ⟨j.val - 16, by omega⟩
  else rPay I c ⟨j.val - 19, by omega⟩
def dmaPay (c : Dev nD) (s : DmaSem sig) : sProp 𝕄 :=
  if h : 3 ≤ s.val then ownPay I c ⟨s.val - 3, by have := s.isLt; change s.val < 25 at this; omega⟩ else iprop(emp)
def pay (c : Dev nD) (sm : SemLoc sig) (d : Fin 3) : sProp 𝕄 := match sm with
  | .reg _ => barPay c d
  | .dma s => dmaPay I c s

/-- Who pays a cell: three peers the barrier, one copy every other cell. -/
def payers (sm : SemLoc sig) : Finset (Fin 3) := match sm with
  | .reg _ => Finset.univ
  | .dma s => if 3 ≤ s.val then {0} else ∅
def amt (sm : SemLoc sig) : ℕ := match sm with
  | .reg _ => 1
  | .dma s => if s.val < 19 then Nw else Ns

theorem amt_pos (sm : SemLoc sig) : 0 < amt sm := by
  cases sm with
  | reg _ => exact Nat.one_pos
  | dma s => dsimp only [amt]; split; exacts [Nw_pos, Ns_pos]

/-- One round on every cell. -/
def Rd : Rounds.Schedule (GSem nD τ sig) (Fin 3) 𝕄 where
  duties g r := if r = 0 ∧ g.1.2 = .tc then payers g.2 else ∅
  unitless _ := False
  amount g _ _ := amt g.2
  payload g _ d := pay I g.1.1 g.2 d
  amount_pos g _ _ _ := amt_pos g.2

instance Rd_payload_storable (g : GSem nD τ sig) (r : ℕ) (d : Fin 3) :
    BI.Storable (upEmb : UEmb _ 𝕄) ((Rd (F := F) I).payload g r d) := by
  show BI.Storable upEmb (pay I g.1.1 g.2 d)
  unfold pay
  split
  · unfold barPay; infer_instance
  · unfold dmaPay ownPay wPay sPay rPay
    (repeat' split) <;> infer_instance

section Tables
variable (c : Dev nD)

theorem duties_bar : (Rd (F := F) I).duties (barCell c) 0 = Finset.univ := by dsimp only [Rd]; exact if_pos ⟨rfl, rfl⟩
theorem duties_own (j : Fin 22) : (Rd (F := F) I).duties (ownCell c j) 0 = {0} := by
  dsimp only [Rd]; exact (if_pos ⟨rfl, rfl⟩).trans (if_pos (Nat.le_add_right 3 _))
theorem duties_later (g : GSem nD τ sig) : ∀ r, 1 ≤ r → (Rd (F := F) I).duties g r = ∅ :=
  fun r hr => by dsimp only [Rd]; rw [if_neg (fun h => by omega)]

theorem amount_bar (d : Fin 3) : (Rd (F := F) I).amount (barCell c) 0 d = 1 := rfl
theorem amount_w (k : Fin 16) (d : Fin 3) : (Rd (F := F) I).amount (ownCell c (wIx k)) 0 d = Nw := by
  show amt (.dma (ownS (wIx k))) = _; exact if_pos (by show 3 + k.val < 19; omega)
theorem amount_s (k : Fin 3) (d : Fin 3) : (Rd (F := F) I).amount (ownCell c (sIx k)) 0 d = Ns := by
  show amt (.dma (ownS (sIx k))) = _; exact if_neg (by show ¬ 3 + (16 + k.val) < 19; omega)
theorem amount_r (k : Fin 3) (d : Fin 3) : (Rd (F := F) I).amount (ownCell c (rIx k)) 0 d = Ns := by
  show amt (.dma (ownS (rIx k))) = _; exact if_neg (by show ¬ 3 + (19 + k.val) < 19; omega)

theorem expect_bar : (Rd (F := F) I).expect (barCell c) 0 = 3 := by
  unfold Schedule.expect Schedule.amountOf; rw [duties_bar, Finset.sum_congr rfl fun d _ => amount_bar I c d]; rfl
theorem expect_w (k : Fin 16) : (Rd (F := F) I).expect (ownCell c (wIx k)) 0 = Nw := by
  unfold Schedule.expect Schedule.amountOf; rw [duties_own, Finset.sum_singleton, amount_w]
theorem expect_s (k : Fin 3) : (Rd (F := F) I).expect (ownCell c (sIx k)) 0 = Ns := by
  unfold Schedule.expect Schedule.amountOf; rw [duties_own, Finset.sum_singleton, amount_s]
theorem expect_r (k : Fin 3) : (Rd (F := F) I).expect (ownCell c (rIx k)) 0 = Ns := by
  unfold Schedule.expect Schedule.amountOf; rw [duties_own, Finset.sum_singleton, amount_r]

theorem payload_bar (d : Fin 3) : (Rd (F := F) I).payload (barCell c) 0 d = barPay c d := rfl
theorem payload_own (j : Fin 22) (d : Fin 3) : (Rd (F := F) I).payload (ownCell c j) 0 d = ownPay I c j := by
  show dmaPay I c (ownS j) = _
  unfold dmaPay
  rw [dif_pos (Nat.le_add_right 3 j.val)]
  congr 1
  exact Fin.ext (Nat.add_sub_cancel_left 3 j.val)
theorem payload_w (k : Fin 16) (d : Fin 3) : (Rd (F := F) I).payload (ownCell c (wIx k)) 0 d = wPay I c k := by
  rw [payload_own]; unfold ownPay; rw [dif_pos k.isLt]
theorem payload_s (k : Fin 3) (d : Fin 3) : (Rd (F := F) I).payload (ownCell c (sIx k)) 0 d = sPay I c k := by
  have := k.isLt
  rw [payload_own]; unfold ownPay
  rw [dif_neg (show ¬ (16 + k.val) < 16 by omega), dif_pos (show (16 + k.val) < 19 by omega)]
  congr 1
  exact Fin.ext (Nat.add_sub_cancel_left 16 k.val)
theorem payload_r (k : Fin 3) (d : Fin 3) : (Rd (F := F) I).payload (ownCell c (rIx k)) 0 d = rPay I c k := by
  rw [payload_own]; unfold ownPay
  rw [dif_neg (show ¬ (19 + k.val) < 16 by omega), dif_neg (show ¬ (19 + k.val) < 19 by omega)]
  congr 1
  exact Fin.ext (Nat.add_sub_cancel_left 19 k.val)

theorem rest_bar : bigSep ((Rd (F := F) I).duties (barCell c) 0 \ ∅) (fun d => (Rd (F := F) I).payload (barCell c) 0 d) = bigSep Finset.univ (barPay (F := F) c) := by
  rw [Finset.sdiff_empty, duties_bar]; rfl
theorem rest_w (k : Fin 16) : bigSep ((Rd (F := F) I).duties (ownCell c (wIx k)) 0 \ ∅) (fun d => (Rd (F := F) I).payload (ownCell c (wIx k)) 0 d) = wPay I c k := by
  rw [Finset.sdiff_empty, duties_own, bigSep_singleton, payload_w]
theorem rest_s (k : Fin 3) : bigSep ((Rd (F := F) I).duties (ownCell c (sIx k)) 0 \ ∅) (fun d => (Rd (F := F) I).payload (ownCell c (sIx k)) 0 d) = sPay I c k := by
  rw [Finset.sdiff_empty, duties_own, bigSep_singleton, payload_s]
theorem rest_r (k : Fin 3) : bigSep ((Rd (F := F) I).duties (ownCell c (rIx k)) 0 \ ∅) (fun d => (Rd (F := F) I).payload (ownCell c (rIx k)) 0 d) = rPay I c k := by
  rw [Finset.sdiff_empty, duties_own, bigSep_singleton, payload_r]

end Tables

/-! ## What each core owes; the levels -/

abbrev oweR (c : Dev nD) (k : Fin 3) : CellTallies nD τ sig Unit := tallyAt (ownCell (peer k c) (rIx k)) () Ns
abbrev oweB (c : Dev nD) (k : Fin 3) : CellTallies nD τ sig Unit := tallyAt (barCell (peer k c)) () 1
/-- What a core owes once its three barrier units are paid: the landings of its three copies. -/
def OR (c : Dev nD) : CellTallies nD τ sig Unit := oweR c 2 + oweR c 1 + oweR c 0
def O₀ (c : Dev nD) : CellTallies nD τ sig Unit := OR c + oweB c 2 + oweB c 1 + oweB c 0

def L (g : GSem nD τ sig) : Finset Unit := if g.1.2 = .tc then {()} else ∅
/-- Barrier cells at 1, receive cells at 2, the rest at 0. -/
def lvS (sm : SemLoc sig) : ℕ := match sm with
  | .reg _ => 1
  | .dma s => if 22 ≤ s.val then 2 else 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl
theorem lv_r (c : Dev nD) (k : Fin 3) (u : Unit) : lv (ownCell c (rIx k)) u = 2 := if_pos (by show 22 ≤ 3 + (19 + k.val); omega)
theorem lv_w (k : Fin 16) : lvS (.dma (ownS (wIx k))) = 0 := if_neg (by show ¬ 22 ≤ 3 + k.val; omega)

theorem tally_pos {g g' : GSem nD τ sig} {u : Unit} {n : ℕ} (h : 0 < (tallyAt g' () n : CellTallies nD τ sig Unit) g u) : g = g' := by
  rw [tallyAt_apply] at h
  split at h
  · next hg => exact hg.1
  · exact absurd h (Nat.lt_irrefl 0)

theorem OR_pos {c : Dev nD} {g : GSem nD τ sig} {u : Unit} (h : 0 < OR c g u) : ∃ k : Fin 3, g = ownCell (peer k c) (rIx k) := by
  unfold OR at h
  rw [Pi.add_apply, Finsupp.add_apply, Pi.add_apply, Finsupp.add_apply] at h
  rcases Nat.add_pos_iff_pos_or_pos.mp h with h | h
  · rcases Nat.add_pos_iff_pos_or_pos.mp h with h | h
    exacts [⟨2, tally_pos h⟩, ⟨1, tally_pos h⟩]
  · exact ⟨0, tally_pos h⟩

theorem O₀_pos {c : Dev nD} {g : GSem nD τ sig} {u : Unit} (h : 0 < O₀ c g u) :
    ∃ k : Fin 3, g = ownCell (peer k c) (rIx k) ∨ g = barCell (peer k c) := by
  unfold O₀ at h
  rw [Pi.add_apply, Finsupp.add_apply, Pi.add_apply, Finsupp.add_apply, Pi.add_apply, Finsupp.add_apply] at h
  rcases Nat.add_pos_iff_pos_or_pos.mp h with h | h
  · rcases Nat.add_pos_iff_pos_or_pos.mp h with h | h
    · rcases Nat.add_pos_iff_pos_or_pos.mp h with h | h
      · obtain ⟨k, hk⟩ := OR_pos h; exact ⟨k, .inl hk⟩
      · exact ⟨2, .inr (tally_pos h)⟩
    · exact ⟨1, .inr (tally_pos h)⟩
  · exact ⟨0, .inr (tally_pos h)⟩

/-- A core that owes only landings may wait on any cell at level 0 or 1. -/
theorem mayWait_OR (c : Dev nD) (sm : SemLoc sig) (h : lvS sm ≤ 1) :
    (levAts L lv : sProp 𝕄) ⊢ MayWait (c : Thread nD τ) sm () (OR c) :=
  MayOwe.of_cut (L := L) (lev := lv) 1 (fun p hp => by rw [Finset.mem_singleton.mp hp, L_tc]; exact Finset.mem_singleton_self _)
    (fun g u hg => by obtain ⟨k, rfl⟩ := OR_pos hg; rw [L_tc]; exact Finset.mem_singleton_self _)
    (fun p hp => by rw [Finset.mem_singleton.mp hp]; exact h)
    (fun g u hg => by obtain ⟨k, rfl⟩ := OR_pos hg; rw [lv_r]; decide)

/-! ## The records every device may consult -/

/-- Every cell's invariant, under one map of names, and that round 0 of every barrier cell is reached. -/
def recs (K : GSem nD τ sig → ℕ) : sProp 𝕄 :=
  iprop((bigSep Finset.univ fun c : Dev nD => cellInv ER (Rd I) (K (barCell c)) (barCell c))
    ∗ (bigSep Finset.univ fun cj : Dev nD × Fin 22 => cellInv ER (Rd I) (K (ownCell cj.1 cj.2)) (ownCell cj.1 cj.2))
    ∗ bigSep Finset.univ fun c : Dev nD => reached ER (barCell c) 0)

instance recs_persistent (K : GSem nD τ sig → ℕ) : BI.Persistent (recs I K) := by unfold recs; infer_instance

theorem recs_bar (K : GSem nD τ sig → ℕ) (c : Dev nD) : recs I K ⊢ cellInv ER (Rd I) (K (barCell c)) (barCell c) := by
  unfold recs
  have h : (bigSep Finset.univ fun c : Dev nD => cellInv ER (Rd I) (K (barCell c)) (barCell c)) ⊢ (cellInv ER (Rd I) (K (barCell c)) (barCell c) : sProp 𝕄) :=
    bigSep_elim (Finset.mem_univ c)
  iintro ⟨H, -, -⟩
  iapply h $$ H
theorem recs_own (K : GSem nD τ sig → ℕ) (c : Dev nD) (j : Fin 22) : recs I K ⊢ cellInv ER (Rd I) (K (ownCell c j)) (ownCell c j) := by
  unfold recs
  have h : (bigSep Finset.univ fun cj : Dev nD × Fin 22 => cellInv ER (Rd I) (K (ownCell cj.1 cj.2)) (ownCell cj.1 cj.2))
      ⊢ (cellInv ER (Rd I) (K (ownCell c j)) (ownCell c j) : sProp 𝕄) := bigSep_elim (Finset.mem_univ (c, j))
  iintro ⟨-, H, -⟩
  iapply h $$ H
theorem recs_reached (K : GSem nD τ sig → ℕ) (c : Dev nD) : recs I K ⊢ reached ER (barCell c) 0 := by
  unfold recs
  have h : (bigSep Finset.univ fun c : Dev nD => reached ER (barCell c) 0) ⊢ (reached ER (barCell c) 0 : sProp 𝕄) := bigSep_elim (Finset.mem_univ c)
  iintro ⟨-, -, H⟩
  iapply h $$ H

theorem close (κ : ℕ) (g : GSem nD τ sig) :
    iprop(cellInv ER (Rd I) κ g ∗ atPos ER g (0 + 1) ∅ 0) ⊢ (|={Set.univ}=> semVal g 0 : sProp 𝕄) :=
  Rounds.cell_close ER (Rd I) (Set.mem_univ κ) id (duties_later I g)

/-! ## Separating conjunctions over the cells of a device -/

theorem bigSep_22 (Φ : Fin 22 → sProp 𝕄) : bigSep Finset.univ Φ
    = iprop((bigSep Finset.univ fun k : Fin 16 => Φ (wIx k)) ∗ (bigSep Finset.univ fun k : Fin 3 => Φ (sIx k)) ∗ bigSep Finset.univ fun k : Fin 3 => Φ (rIx k)) := by
  rw [bigSep_univ_equiv ((Equiv.sumCongr (Equiv.refl (Fin 16)) (finSumFinEquiv (m := 3) (n := 3))).trans (finSumFinEquiv (m := 16) (n := 6))) Φ,
    bigSep_univ_sum, bigSep_univ_sum]
  rfl

theorem bigSep_3 (Φ : Fin 3 → sProp 𝕄) : bigSep Finset.univ Φ = iprop(Φ 0 ∗ Φ 1 ∗ Φ 2) :=
  bigSep_univ_eq_bigSepL [0, 1, 2] (by decide) (by decide) Φ

theorem bigSep_16 (Φ : Fin 16 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ

end Cert.KernelIdeal.Xent

end
-- ==== Proof.Xent.Steps.lean ====
/- One step of each kind the body takes, at a symbolic device: starting and awaiting a weight copy, reading a landed
   chunk, paying a peer's barrier, sending to a peer, awaiting a send or a landing. -/
module

public import proofs.«01_k».proof.Proof.Xent.Sched
public import Idealize.ShloMosaic.Lib.Ring

@[expose] public section

noncomputable section

namespace Cert.KernelIdeal.Xent

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

variable {F : FTy → Type} [FloatOps F]

local notation "𝕄" => MT nD τ sig Unit (Elt F) ℕ UU ℕ

abbrev 𝒱₀ : Variants := Variants.none

variable (I : Ins F) (K : GSem nD τ sig → ℕ) (c : Dev nD)

/-- A core owing `O`, whatever waits it has recorded. -/
def owesE (O : CellTallies nD τ sig Unit) : sProp 𝕄 := iprop(∃ W, owes (c : Thread nD τ) O W)

/-! ## Weight copies -/

/-- Weight copy `k` not yet started, under way, and landed. -/
def wIdle (k : Fin 16) : sProp 𝕄 :=
  iprop(dutyTok ER (ownCell c (wIx k)) 0 0 ∗ atPos ER (ownCell c (wIx k)) 0 ∅ 0 ∗ reached ER (ownCell c (wIx k)) 0
    ∗ srcPts c k (I.w c) ∗ ∃ f, piecePts c k f)
def wBusy (k : Fin 16) : sProp 𝕄 := iprop(cred (tallyAt (ownCell c (wIx k)) () Nw) ∗ atPos ER (ownCell c (wIx k)) 0 ∅ 0)
def wDone (k : Fin 16) : sProp 𝕄 := iprop(atPos ER (ownCell c (wIx k)) (0 + 1) ∅ 0 ∗ wPay I c k)

/-- STARTING weight copy `k`. -/
theorem copy_step (k : Fin 16) (off : Fin 2 → ℕ) (hoff : off = ![k.val % 4 * 256, c.val / 2 * 4096 + k.val / 4 * 1024])
    {inb : ∀ a, off a + S256x1024.size a ≤ S1024x8192.size a} {hsrc hdst hsem}
 {α : Type}
    {cont : PUnit → Prog (TpuEff nD τ sig (Elt F) Λ₀ .tc) α} {Q : α → sProp 𝕄} :
    iprop(recs I K ∗ wIdle I c k)
      ⊢ iprop((wBusy c k -∗ wp frame (wpE (defs₀ (F := F)) 𝒱₀ c none) Set.univ (cont ⟨⟩) Q)
          -∗ wp frame (wpE (defs₀ (F := F)) 𝒱₀ c none) Set.univ
            (.op (.enqueueDma (wM.slice (Rect.unit (s := S1024x8192) off S256x1024.size inb) (fun _ => rfl)) (.here (pieceM k)) (.dma (ownS (wIx k))) hsrc hdst hsem) cont) Q) := by
  subst hoff
  unfold wIdle wBusy
  iintro ⟨#HR, Ht, Hat, #Hr, Hs, ⟨%f, Hp⟩⟩ Hk
  iapply (Rounds.wp_copy_pointsTo 𝒱₀ ER (Rd I) (c : Thread nD τ) none (src := srcM c k) (dst := pieceM k) (sem := .dma (ownS (wIx k)))
      (q := Transfers.shareTokN fullShare k.val) (fs := I.w c) (fd := f) (r := 0) (d := 0) (κ := K (ownCell c (wIx k)))
      (by rw [duties_own]; exact Finset.mem_singleton_self _) () Nw (Nw_eq k) (amount_w I c k 0)
      (by
        rw [payload_w]; unfold wPay
        refine sep_mono_left (Entails.of_eq ?_)
        exact pointsTo_congr fun t ht => landed_piece c k (I.w c) f t ht)) $$ [Hs Hp Ht]
  · isplitr; · iapply (recs_own I K c (wIx k)); iexact HR
    isplitl [Hs]; · iexact Hs
    isplitl [Hp]; · iexact Hp
    isplitl [Ht]; · iexact Ht
    iexact Hr
  iintro Hc
  iapply Hk
  isplitl [Hc]; · iexact Hc
  iexact Hat

/-- AWAITING weight copy `k`, owing only landings. -/
theorem wait_step (k : Fin 16) {src : Memref sig .tc .hbm S256x1024 .f32} {hsrc : src.view.WordExact} {hdst : (pieceM k).view.WordExact} {α : Type}
    {cont : PUnit → Prog (TpuEff nD τ sig (Elt F) Λ₀ .tc) α} {Q : α → sProp 𝕄} :
    iprop(recs I K ∗ levAts L lv ∗ wBusy c k ∗ owesE c (OR c))
      ⊢ iprop((wDone I c k ∗ owesE c (OR c) -∗ wp frame (wpE (defs₀ (F := F)) 𝒱₀ c none) Set.univ (cont ⟨⟩) Q)
          -∗ wp frame (wpE (defs₀ (F := F)) 𝒱₀ c none) Set.univ
            (.op (.waitDma2 (ownS (wIx k)) src (pieceM k) hsrc hdst) cont) Q) := by
  unfold wBusy wDone owesE
  iintro ⟨#HR, #Hlev, ⟨Hc, Hat⟩, ⟨%W, HO⟩⟩ Hk
  iapply (Rounds.wp_wait_rest_token 𝒱₀ ER (Rd I) (c : Thread nD τ) none (κ := K (ownCell c (wIx k)))
      (wpE_waitDma2_eq (src := src) (dst := pieceM k) (hsrc := hsrc) (hdst := hdst) 𝒱₀ (c : Thread nD τ) none Set.univ) (Set.mem_univ _) () (O := OR c) (W := W) (R := 0) (m := 0) (T := ∅)
      ((Nat.zero_add _).trans (expect_w I c k).symm)) $$ [Hc HO Hat]
  · isplitr; · iapply (recs_own I K c (wIx k)); iexact HR
    isplitl [Hc]; · iexact Hc
    isplitl [HO]; · iexact HO
    isplitr; · iapply (mayWait_OR c (.dma (ownS (wIx k))) (by rw [lv_w]; decide)); iexact Hlev
    iexact Hat
  iintro ⟨HO, Hat, -, Hpay⟩
  ihave Hp := (Entails.of_eq (rest_w I c k)) $$ Hpay
  iapply Hk
  isplitr [HO]
  · isplitl [Hat]; · iexact Hat
    iexact Hp
  iexists _; iexact HO

/-! ## Landed chunks -/

/-- The four pieces of chunk `i`. -/
abbrev pc (i j : Fin 4) : Fin 16 := ⟨4 * i.val + j.val, by omega⟩
abbrev chunkRect (i : Fin 4) : Rect S4x1024x1024 := Rect.unit (s := S4x1024x1024) ![i.val, 0, 0] S1x1024x1024.size (inbChunk i)
abbrev chunkSet (i : Fin 4) : Finset S4x1024x1024.Idx := (chunkRect i).set

theorem chunk_cover (i : Fin 4) : Finset.univ.biUnion (fun j : Fin 4 => pieceSet (pc i j)) = chunkSet i := by
  ext t
  rw [Finset.mem_biUnion]
  have hs : ∀ k, t ∈ pieceSet k ↔ t ∈ (Rect.unit (s := S4x1024x1024) ![k.val / 4, k.val % 4 * 256, 0] S1x256x1024.size (inbPiece k)).set := fun k => by
    have e : pieceSet k = _ := piece_set k
    rw [e]
  have h1 := (t 1).isLt
  change (t 1).val < 1024 at h1
  have h2 := (t 2).isLt
  change (t 2).val < 1024 at h2
  have hc : t ∈ chunkSet i ↔ (t 0).val = i.val := by
    refine (Rect.mem_set_unit ..).trans ⟨fun h => ?_, fun h a => ?_⟩
    · have h := h 0
      change i.val ≤ (t 0).val ∧ (t 0).val < i.val + 1 at h
      omega
    · fin_cases a
      · show i.val ≤ (t 0).val ∧ (t 0).val < i.val + 1; omega
      · show 0 ≤ (t 1).val ∧ (t 1).val < 0 + 1024; omega
      · show 0 ≤ (t 2).val ∧ (t 2).val < 0 + 1024; omega
  rw [hc]
  constructor
  · rintro ⟨j, -, hj⟩
    have h := (Rect.mem_set_unit ..).mp ((hs _).mp hj) 0
    change (4 * i.val + j.val) / 4 ≤ (t 0).val ∧ (t 0).val < (4 * i.val + j.val) / 4 + 1 at h
    omega
  · intro h
    refine ⟨⟨(t 1).val / 256, by omega⟩, Finset.mem_univ _, (hs _).mpr ((Rect.mem_set_unit ..).mpr fun a => ?_)⟩
    fin_cases a
    · show (4 * i.val + (t 1).val / 256) / 4 ≤ (t 0).val ∧ (t 0).val < (4 * i.val + (t 1).val / 256) / 4 + 1
      omega
    · show (4 * i.val + (t 1).val / 256) % 4 * 256 ≤ (t 1).val ∧ (t 1).val < (4 * i.val + (t 1).val / 256) % 4 * 256 + 256
      omega
    · show 0 ≤ (t 2).val ∧ (t 2).val < 0 + 1024; omega

theorem bigSep_4 (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem chunk_pts (i : Fin 4) (f : S4x1024x1024.Idx → Elt F .f32) :
    (wbufM.view.loc (c : Thread nD τ) ↦[chunkSet i]{fullShare} f : sProp 𝕄)
      = iprop(piecePts c (pc i 0) f ∗ piecePts c (pc i 1) f ∗ piecePts c (pc i 2) f ∗ piecePts c (pc i 3) f) := by
  refine (Ring.pointsTo_sub_blocks (ℓ := wbufM.view.loc (c : Thread nD τ)) (fun j : Fin 4 => pieceSet (pc i j))
    (fun j j' h => piece_disjoint (pc i j) (pc i j') (fun e => h (Fin.ext (by have := congrArg Fin.val e; simp only [pc] at this; omega))))
    (chunkSet i) (chunk_cover i) f).trans ?_
  rw [bigSep_4]

/-- The four copies of chunk `i` landed. -/
def cDone (i : Fin 4) : sProp 𝕄 := iprop(wDone I c (pc i 0) ∗ wDone I c (pc i 1) ∗ wDone I c (pc i 2) ∗ wDone I c (pc i 3))

/-- READING chunk `i` once its four copies have landed. -/
theorem load_chunk (i : Fin 4) {inb} {hl} {α : Type} {cont : Vec F S1x1024x1024 .f32 → Prog (TpuEff nD τ sig (Elt F) Λ₀ .tc) α} {Q : α → sProp 𝕄} :
    cDone I c i
      ⊢ iprop((cDone I c i -∗ wp frame (wpE (defs₀ (F := F)) 𝒱₀ c none) Set.univ (cont (chunk c (I.w c) i)) Q)
          -∗ wp frame (wpE (defs₀ (F := F)) 𝒱₀ c none) Set.univ
            (.op (.load wbufM (Rect.unit (s := S4x1024x1024) ![i.val, 0, 0] S1x1024x1024.size inb).toLoadRect hl) cont) Q) := by
  unfold cDone wDone wPay
  iintro ⟨⟨A0, P0, S0⟩, ⟨A1, P1, S1⟩, ⟨A2, P2, S2⟩, ⟨A3, P3, S3⟩⟩ Hk
  ihave Hc := (Entails.of_eq (chunk_pts c i (wbuf c (I.w c))).symm) $$ [P0 P1 P2 P3]
  · isplitl [P0]; · iexact P0
    isplitl [P1]; · iexact P1
    isplitl [P2]; · iexact P2
    iexact P3
  iapply (wp_load 𝒱₀ (c : Thread nD τ) none Set.univ (m := wbufM) (r := (chunkRect i).toLoadRect) (S := chunkSet i)
    (q := fullShare) (f := wbuf c (I.w c)) (fun x hx => by
      obtain ⟨y, hy, rfl⟩ := Finset.mem_map.mp hx
      exact hy)) $$ [Hc]
  · iexact Hc
  rw [read_chunk]
  iintro Hc
  ihave Hp := (Entails.of_eq (chunk_pts c i (wbuf c (I.w c)))) $$ Hc
  icases Hp with ⟨P0, P1, P2, P3⟩
  iapply Hk
  isplitl [A0 P0 S0]
  · isplitl [A0]; · iexact A0
    isplitl [P0]; · iexact P0
    iexact S0
  isplitl [A1 P1 S1]
  · isplitl [A1]; · iexact A1
    isplitl [P1]; · iexact P1
    iexact S1
  isplitl [A2 P2 S2]
  · isplitl [A2]; · iexact A2
    isplitl [P2]; · iexact P2
    iexact S2
  isplitl [A3]; · iexact A3
  isplitl [P3]; · iexact P3
  iexact S3

/-! ## The barrier -/

/-- PAYING the barrier of the `k`-th peer: this device's slot `k` goes with the unit, and that round 0 of this device's
    receive cell `k` is reached. -/
theorem signal_step (k : Fin 3) (p : Dev nD) (hp : p = peer k c) {O : CellTallies nD τ sig Unit} {α : Type}
    {cont : PUnit → Prog (TpuEff nD τ sig (Elt F) Λ₀ .tc) α} {Q : α → sProp 𝕄} :
    iprop(recs I K ∗ dutyTok ER (barCell (peer k c)) 0 k ∗ reached ER (ownCell c (rIx k)) 0 ∗ (∃ f, slotPts c k f) ∗ owesE c (O + oweB c k))
      ⊢ iprop((owesE c O -∗ wp frame (wpE (defs₀ (F := F)) 𝒱₀ c none) Set.univ (cont ⟨⟩) Q)
          -∗ wp frame (wpE (defs₀ (F := F)) 𝒱₀ c none) Set.univ (.op (.semSignal (Dev.tc p) barS 1) cont) Q) := by
  subst hp
  unfold owesE
  iintro ⟨#HR, Ht, #Hr, Hs, ⟨%W, HO⟩⟩ Hk
  iapply (Rounds.wp_signal 𝒱₀ ER (Rd I) (c : Thread nD τ) none (dst := (peer k c : Thread nD τ)) (sem := barS) (r := 0) (d := k) (κ := K (barCell (peer k c)))
      (by rw [duties_bar]; exact Finset.mem_univ _) (amount_bar I (peer k c) k) () O rfl) $$ [Ht Hs HO]
  · isplitr; · iapply (recs_bar I K (peer k c)); iexact HR
    isplitl [HO]; · iexact HO
    isplitl [Ht]; · iexact Ht
    isplitl [Hs]
    · rw [payload_bar]; unfold barPay; rw [peer_peer]
      isplitl [Hs]; · iexact Hs
      iexact Hr
    · iapply (recs_reached I K (peer k c)); iexact HR
  iintro HO
  iapply Hk
  iexists W; iexact HO

/-- AWAITING the three units on its own barrier: the three peers' slots come with them. -/
theorem barrier_step {α : Type} {cont : PUnit → Prog (TpuEff nD τ sig (Elt F) Λ₀ .tc) α} {Q : α → sProp 𝕄} :
    iprop(recs I K ∗ levAts L lv ∗ cred (tallyAt (barCell c) () 3) ∗ atPos ER (barCell c) 0 ∅ 0 ∗ owesE c (OR c))
      ⊢ iprop((owesE c (OR c) ∗ atPos ER (barCell c) (0 + 1) ∅ 0 ∗ barPay c 0 ∗ barPay c 1 ∗ barPay c 2
            -∗ wp frame (wpE (defs₀ (F := F)) 𝒱₀ c none) Set.univ (cont ⟨⟩) Q)
          -∗ wp frame (wpE (defs₀ (F := F)) 𝒱₀ c none) Set.univ (.op (.semWait barS 3) cont) Q) := by
  unfold owesE
  iintro ⟨#HR, #Hlev, Hc, Hat, ⟨%W, HO⟩⟩ Hk
  iapply (Rounds.wp_wait_rest_token 𝒱₀ ER (Rd I) (c : Thread nD τ) none (κ := K (barCell c))
      (wpE_semWait_eq 𝒱₀ (c : Thread nD τ) none Set.univ) (Set.mem_univ _) () (O := OR c) (W := W) (R := 0) (m := 0) (T := ∅)
      ((Nat.zero_add 3).trans (expect_bar I c).symm)) $$ [Hc HO Hat]
  · isplitr; · iapply (recs_bar I K c); iexact HR
    isplitl [Hc]; · iexact Hc
    isplitl [HO]; · iexact HO
    isplitr; · iapply (mayWait_OR c (.reg barS) (Nat.le_refl 1)); iexact Hlev
    iexact Hat
  iintro ⟨HO, Hat, -, Hpay⟩
  ihave Hp := (Entails.of_eq ((rest_bar I c).trans (bigSep_3 _))) $$ Hpay
  iapply Hk
  isplitl [HO]; · iexists _; iexact HO
  isplitl [Hat]; · iexact Hat
  iexact Hp

/-! ## The exchange -/

/-- Receiving from peer `k`: before, with the cell's credit, and after. -/
def rWait (k : Fin 3) : sProp 𝕄 := iprop(cred (tallyAt (ownCell c (rIx k)) () Ns) ∗ atPos ER (ownCell c (rIx k)) 0 ∅ 0)
def rDone (k : Fin 3) : sProp 𝕄 := iprop(atPos ER (ownCell c (rIx k)) (0 + 1) ∅ 0 ∗ rPay I c k)
/-- Sending to peer `k`: before, under way, and after. -/
def sIdle (k : Fin 3) : sProp 𝕄 :=
  iprop(dutyTok ER (ownCell c (sIx k)) 0 0 ∗ atPos ER (ownCell c (sIx k)) 0 ∅ 0 ∗ reached ER (ownCell c (sIx k)) 0
    ∗ dutyTok ER (ownCell (peer k c) (rIx k)) 0 0)
def sBusy (k : Fin 3) : sProp 𝕄 := iprop(cred (tallyAt (ownCell c (sIx k)) () Ns) ∗ atPos ER (ownCell c (sIx k)) 0 ∅ 0)
def sDone (k : Fin 3) : sProp 𝕄 := iprop(atPos ER (ownCell c (sIx k)) (0 + 1) ∅ 0 ∗ sPay I c k)

/-- SENDING the three rows into slot `k` of the `k`-th peer. -/
theorem send_step (k : Fin 3) (p : Dev nD) (hp : p = peer k c) {O : CellTallies nD τ sig Unit} {hsc hsrc hdst hsem} {α : Type}
    {cont : PUnit → Prog (TpuEff nD τ sig (Elt F) Λ₀ .tc) α} {Q : α → sProp 𝕄} :
    iprop(recs I K ∗ sIdle c k ∗ barPay c k ∗ myPts c k (stats I c) ∗ owesE c (O + oweR c k))
      ⊢ iprop((sBusy c k ∗ owesE c O -∗ wp frame (wpE (defs₀ (F := F)) 𝒱₀ c none) Set.univ (cont ⟨⟩) Q)
          -∗ wp frame (wpE (defs₀ (F := F)) 𝒱₀ c none) Set.univ
            (.op (.enqueueDma myM (.remote (Dev.tc p) (slotM k) (.dma (ownS (sIx k))) hsc) (.dma (ownS (rIx k))) hsrc hdst hsem) cont) Q) := by
  subst hp
  unfold sIdle sBusy owesE barPay
  iintro ⟨#HR, ⟨HtS, Hat, #HrS, HtR⟩, ⟨⟨%f, Hs⟩, #HrR⟩, Hm, ⟨%W, HO⟩⟩ Hk
  iapply (Rounds.wp_send_pointsTo 𝒱₀ ER (Rd I) (c : Thread nD τ) none (c' := (peer k c : Thread nD τ)) (src := myM) (dst := slotM k)
      (sS := .dma (ownS (sIx k))) (sem := .dma (ownS (rIx k))) (q := Transfers.shareTokN fullShare k.val) (fs := stats I c)
      (κ₁ := K (ownCell c (sIx k))) (κ₂ := K (ownCell (peer k c) (rIx k)))
      (r₁ := 0) (r₂ := 0) (d₁ := 0) (d₂ := 0) (fd := f)
      (by rw [duties_own]; exact Finset.mem_singleton_self _) (by rw [duties_own]; exact Finset.mem_singleton_self _)
      () () Ns (Ns_eq k) (amount_s I c k 0) (amount_r I (peer k c) k 0) O rfl (W := W)
      (by rw [payload_s]; exact BI.Entails.refl _)
      (by
        rw [payload_r]; unfold rPay
        refine Entails.of_eq (pointsTo_congr fun t ht => ?_)
        have h := landed_slot I (peer k c) k f t ht
        rw [peer_peer] at h
        exact h)) $$ [Hm Hs HO HtS HtR]
  · isplitr; · iapply (recs_own I K c (sIx k)); iexact HR
    isplitr; · iapply (recs_own I K (peer k c) (rIx k)); iexact HR
    isplitl [Hm]; · iexact Hm
    isplitl [Hs]; · iexact Hs
    isplitl [HO]; · iexact HO
    isplitl [HtS]; · iexact HtS
    isplitr; · iexact HrS
    isplitl [HtR]; · iexact HtR
    iexact HrR
  iintro ⟨HcS, HO⟩
  iapply Hk
  isplitl [HcS Hat]
  · isplitl [HcS]; · iexact HcS
    iexact Hat
  iexists W; iexact HO

/-- AWAITING send `k`, owing nothing: the share of the send buffer comes back. -/
theorem sent_step (k : Fin 3) {sp : Space} {src : Memref sig .tc sp S3x512 .f32} {hsrc hdst} {α : Type}
    {cont : PUnit → Prog (TpuEff nD τ sig (Elt F) Λ₀ .tc) α} {Q : α → sProp 𝕄} :
    iprop(recs I K ∗ sBusy c k ∗ owesE c 0)
      ⊢ iprop((sDone I c k ∗ owesE c 0 -∗ wp frame (wpE (defs₀ (F := F)) 𝒱₀ c none) Set.univ (cont ⟨⟩) Q)
          -∗ wp frame (wpE (defs₀ (F := F)) 𝒱₀ c none) Set.univ
            (.op (.waitDma2 (ownS (sIx k)) src myM hsrc hdst) cont) Q) := by
  unfold sBusy sDone owesE
  iintro ⟨#HR, ⟨Hc, Hat⟩, ⟨%W, HO⟩⟩ Hk
  iapply (Rounds.wp_wait_rest_token 𝒱₀ ER (Rd I) (c : Thread nD τ) none (κ := K (ownCell c (sIx k))) (k' := Ns)
      (fun Kt => (wpE_waitDma2_eq 𝒱₀ (c : Thread nD τ) none Set.univ Kt).trans (by rw [Ns_my])) (Set.mem_univ _) () (O := 0) (W := W) (R := 0) (m := 0) (T := ∅)
      ((Nat.zero_add _).trans (expect_s I c k).symm)) $$ [Hc HO Hat]
  · isplitr; · iapply (recs_own I K c (sIx k)); iexact HR
    isplitl [Hc]; · iexact Hc
    isplitl [HO]; · iexact HO
    isplitr; · rw [MayWait_zero]; iempintro
    iexact Hat
  iintro ⟨HO, Hat, -, Hpay⟩
  ihave Hp := (Entails.of_eq (rest_s I c k)) $$ Hpay
  iapply Hk
  isplitr [HO]
  · isplitl [Hat]; · iexact Hat
    iexact Hp
  iexists _; iexact HO

/-- AWAITING the landing from peer `k`, owing nothing: slot `k` comes back at that peer's rows. -/
theorem landed_step (k : Fin 3) {sp : Space} {src : Memref sig .tc sp S3x512 .f32} {hsrc : src.view.WordExact} {hdst : (slotM k).view.WordExact} {α : Type}
    {cont : PUnit → Prog (TpuEff nD τ sig (Elt F) Λ₀ .tc) α} {Q : α → sProp 𝕄} :
    iprop(recs I K ∗ rWait c k ∗ owesE c 0)
      ⊢ iprop((rDone I c k ∗ owesE c 0 -∗ wp frame (wpE (defs₀ (F := F)) 𝒱₀ c none) Set.univ (cont ⟨⟩) Q)
          -∗ wp frame (wpE (defs₀ (F := F)) 𝒱₀ c none) Set.univ
            (.op (.waitDma2 (ownS (rIx k)) src (slotM k) hsrc hdst) cont) Q) := by
  unfold rWait rDone owesE
  iintro ⟨#HR, ⟨Hc, Hat⟩, ⟨%W, HO⟩⟩ Hk
  iapply (Rounds.wp_wait_rest_token 𝒱₀ ER (Rd I) (c : Thread nD τ) none (κ := K (ownCell c (rIx k)))
      (wpE_waitDma2_eq (src := src) (dst := slotM k) (hsrc := hsrc) (hdst := hdst) 𝒱₀ (c : Thread nD τ) none Set.univ) (Set.mem_univ _) () (O := 0) (W := W) (R := 0) (m := 0) (T := ∅)
      ((Nat.zero_add _).trans (expect_r I c k).symm)) $$ [Hc HO Hat]
  · isplitr; · iapply (recs_own I K c (rIx k)); iexact HR
    isplitl [Hc]; · iexact Hc
    isplitl [HO]; · iexact HO
    isplitr; · rw [MayWait_zero]; iempintro
    iexact Hat
  iintro ⟨HO, Hat, -, Hpay⟩
  ihave Hp := (Entails.of_eq (rest_r I c k)) $$ Hpay
  iapply Hk
  isplitr [HO]
  · isplitl [Hat]; · iexact Hat
    iexact Hp
  iexists _; iexact HO

end Cert.KernelIdeal.Xent

end
-- ==== Proof.Xent.Loads.lean ====
/- The loads and stores of the body, and how each of its parts is called. -/
module

public import proofs.«01_k».proof.Proof.Xent.Steps

@[expose] public section

noncomputable section

namespace Cert.KernelIdeal.Xent

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

variable {F : FTy → Type} [FloatOps F]

local notation "𝕄" => MT nD τ sig Unit (Elt F) ℕ UU ℕ

/-- A part of the body at the buffers and semaphores it is called with. -/
abbrev atArgs {α : Type _} (p : (arg0 : Memref sig .tc .vmem S512x1024 .f32) → (harg0 : arg0.IsWhole) → (arg1 : Memref sig .tc .hbm S1024x8192 .f32) → (harg1 : arg1.IsWhole) → (arg2 : Memref sig .tc .vmem S512x1 .i32) → (harg2 : arg2.IsWhole) → (arg3 : Memref sig .tc .vmem S1x512 .f32) → (harg3 : arg3.IsWhole) → (arg4 : Memref sig .tc .vmem S4x1024x1024 .f32) → (harg4 : arg4.IsWhole) → (arg5 : Memref sig .tc .vmem S3x512 .f32) → (harg5 : arg5.IsWhole) → (arg6 : Memref sig .tc .vmem S3x3x512 .f32) → (harg6 : arg6.IsWhole) → (arg7 : DmaSems sig S16) → (arg8 : DmaSems sig S3) → (arg9 : DmaSems sig S3) → α) : α :=
  p xM (Memref.isWhole_whole _) wM (Memref.isWhole_whole _) labM (Memref.isWhole_whole _) outM (Memref.isWhole_whole _)
    wbufM (Memref.isWhole_whole _) myM (Memref.isWhole_whole _) slotsM (Memref.isWhole_whole _) cc0_scratch3 cc0_scratch4 cc0_scratch5

variable (I : Ins F) (K : GSem nD τ sig → ℕ) (c : Dev nD)

/-- The weakest precondition of a piece of the body on device `c`. -/
abbrev wpc {α : Type} (p : Prog (TpuEff nD τ sig (Elt F) Λ₀ .tc) α) (Q : α → sProp 𝕄) : sProp 𝕄 :=
  wp frame (wpE (defs₀ (F := F)) 𝒱₀ c none) Set.univ p Q

/-- The staged activations, labels and output, the send buffer and the receive buffer, whole. -/
def xPts (f : S512x1024.Idx → Elt F .f32) : sProp 𝕄 := xM.view.loc (c : Thread nD τ) ↦[Finset.univ]{fullShare} f
def labPts (f : S512x1.Idx → Elt F .i32) : sProp 𝕄 := labM.view.loc (c : Thread nD τ) ↦[Finset.univ]{fullShare} f
def outPts (f : S1x512.Idx → Elt F .f32) : sProp 𝕄 := outM.view.loc (c : Thread nD τ) ↦[Finset.univ]{fullShare} f
def myAll (f : S3x512.Idx → Elt F .f32) : sProp 𝕄 := myM.view.loc (c : Thread nD τ) ↦[Finset.univ]{fullShare} f
def slotsAll (f : S3x3x512.Idx → Elt F .f32) : sProp 𝕄 := slotsM.view.loc (c : Thread nD τ) ↦[Finset.univ]{fullShare} f
/-- The share of the send buffer kept while the three sends read it. -/
def myKeep (f : S3x512.Idx → Elt F .f32) : sProp 𝕄 := myM.view.loc (c : Thread nD τ) ↦[Finset.univ]{Transfers.shareDrop fullShare 3} f

/-- What paying peer `k`'s barrier takes: the right to pay it once, and slot `k` here with its cell open. -/
def sigTok (k : Fin 3) : sProp 𝕄 :=
  iprop(dutyTok ER (barCell (peer k c)) 0 k ∗ reached ER (ownCell c (rIx k)) 0 ∗ ∃ f, slotPts c k f)

theorem signal_step' (k : Fin 3) (p : Dev nD) (hp : p = peer k c) {O : CellTallies nD τ sig Unit} {α : Type}
    {cont : PUnit → Prog (TpuEff nD τ sig (Elt F) Λ₀ .tc) α} {Q : α → sProp 𝕄} :
    iprop(recs I K ∗ sigTok c k ∗ owesE c (O + oweB c k))
      ⊢ iprop((owesE c O -∗ wp frame (wpE (defs₀ (F := F)) 𝒱₀ c none) Set.univ (cont ⟨⟩) Q) -∗ wp frame (wpE (defs₀ (F := F)) 𝒱₀ c none) Set.univ (.op (.semSignal (Dev.tc p) barS 1) cont) Q) := by
  unfold sigTok
  iintro ⟨#HR, ⟨Ht, Hr, Hs⟩, HO⟩
  iapply (signal_step I K c k p hp)
  isplitr; · iexact HR
  isplitl [Ht]; · iexact Ht
  isplitl [Hr]; · iexact Hr
  isplitl [Hs]; · iexact Hs
  iexact HO

theorem zeroOff2 : (![0, 0] : Fin 2 → ℕ) = fun _ => 0 := by funext a; fin_cases a <;> rfl

/-- LOADING the activations. -/
theorem load_x {f : S512x1024.Idx → Elt F .f32} {inb} {hl} {α : Type} {cont : Vec F S512x1024 .f32 → Prog (TpuEff nD τ sig (Elt F) Λ₀ .tc) α} {Q : α → sProp 𝕄} :
    xPts c f ⊢ iprop((xPts c f -∗ wp frame (wpE (defs₀ (F := F)) 𝒱₀ c none) Set.univ (cont f) Q)
      -∗ wp frame (wpE (defs₀ (F := F)) 𝒱₀ c none) Set.univ (.op (.load xM (Rect.unit (s := S512x1024) ![0, 0] S512x1024.size inb).toLoadRect hl) cont) Q) := by
  unfold xPts
  iintro H Hk
  iapply (wp_load 𝒱₀ (c : Thread nD τ) none Set.univ (m := xM) (Finset.subset_univ _)) $$ H
  have e := Memref.readAt_unit_zero (Elt F) cc0_stg0_0 zeroOff2 inb f
  rw [show xM.view.readAt (Elt F) (Rect.unit (s := S512x1024) ![0, 0] S512x1024.size inb).toLoadRect f = f from e]
  iexact Hk

/-- LOADING the labels. -/
theorem load_lab {f : S512x1.Idx → Elt F .i32} {inb} {hl} {α : Type} {cont : Vec F S512x1 .i32 → Prog (TpuEff nD τ sig (Elt F) Λ₀ .tc) α} {Q : α → sProp 𝕄} :
    labPts c f ⊢ iprop((labPts c f -∗ wp frame (wpE (defs₀ (F := F)) 𝒱₀ c none) Set.univ (cont f) Q)
      -∗ wp frame (wpE (defs₀ (F := F)) 𝒱₀ c none) Set.univ (.op (.load labM (Rect.unit (s := S512x1) ![0, 0] S512x1.size inb).toLoadRect hl) cont) Q) := by
  unfold labPts
  iintro H Hk
  iapply (wp_load 𝒱₀ (c : Thread nD τ) none Set.univ (m := labM) (Finset.subset_univ _)) $$ H
  have e := Memref.readAt_unit_zero (Elt F) cc0_stg1_0 zeroOff2 inb f
  rw [show labM.view.readAt (Elt F) (Rect.unit (s := S512x1) ![0, 0] S512x1.size inb).toLoadRect f = f from e]
  iexact Hk

/-- LOADING the output row, whatever it holds. -/
theorem load_out {f : S1x512.Idx → Elt F .f32} {inb} {hl} {α : Type} {cont : Vec F S1x512 .f32 → Prog (TpuEff nD τ sig (Elt F) Λ₀ .tc) α} {Q : α → sProp 𝕄} :
    outPts c f ⊢ iprop((outPts c f -∗ wp frame (wpE (defs₀ (F := F)) 𝒱₀ c none) Set.univ (cont f) Q)
      -∗ wp frame (wpE (defs₀ (F := F)) 𝒱₀ c none) Set.univ (.op (.load outM (Rect.unit (s := S1x512) ![0, 0] S1x512.size inb).toLoadRect hl) cont) Q) := by
  unfold outPts
  iintro H Hk
  iapply (wp_load 𝒱₀ (c : Thread nD τ) none Set.univ (m := outM) (Finset.subset_univ _)) $$ H
  have e := Memref.readAt_unit_zero (Elt F) cc0_stg2_0 zeroOff2 inb f
  rw [show outM.view.readAt (Elt F) (Rect.unit (s := S1x512) ![0, 0] S1x512.size inb).toLoadRect f = f from e]
  iexact Hk

/-- STORING the output row. -/
theorem store_out {f r : S1x512.Idx → Elt F .f32} {inb} {hx hm} {α : Type} {cont : PUnit → Prog (TpuEff nD τ sig (Elt F) Λ₀ .tc) α} {Q : α → sProp 𝕄} :
    outPts c f ⊢ iprop((outPts c r -∗ wp frame (wpE (defs₀ (F := F)) 𝒱₀ c none) Set.univ (cont ⟨⟩) Q)
      -∗ wp frame (wpE (defs₀ (F := F)) 𝒱₀ c none) Set.univ (.op (.store outM (Rect.unit (s := S1x512) ![0, 0] S1x512.size inb) r Finset.univ hx hm) cont) Q) := by
  unfold outPts
  iintro H Hk
  iapply (wp_store 𝒱₀ (c : Thread nD τ) none Set.univ (m := outM) (r := Rect.unit (s := S1x512) ![0, 0] S1x512.size inb) (Mk := Finset.univ) (Finset.subset_univ _)) $$ H
  have e := Memref.write_access_unit_zero_univ (Elt F) cc0_stg2_0 zeroOff2 inb f r
  rw [show (outM.access (Rect.unit (s := S1x512) ![0, 0] S1x512.size inb)).write (Elt F) f r Finset.univ = r from e]
  iexact Hk

/-- LOADING a row of the send buffer before it is written: the value is not used. -/
theorem load_my_any (j : Fin 3) {f : S3x512.Idx → Elt F .f32} {inb} {hl} {α : Type} {cont : Vec F S1x512 .f32 → Prog (TpuEff nD τ sig (Elt F) Λ₀ .tc) α} {Q : α → sProp 𝕄} :
    myAll c f ⊢ iprop((myAll c f -∗ wp frame (wpE (defs₀ (F := F)) 𝒱₀ c none) Set.univ (cont (myM.view.readAt (Elt F) (Rect.unit (s := S3x512) ![j.val, 0] S1x512.size inb).toLoadRect f)) Q)
      -∗ wp frame (wpE (defs₀ (F := F)) 𝒱₀ c none) Set.univ (.op (.load myM (Rect.unit (s := S3x512) ![j.val, 0] S1x512.size inb).toLoadRect hl) cont) Q) :=
  wp_load 𝒱₀ (c : Thread nD τ) none Set.univ (m := myM) (Finset.subset_univ _)

/-- STORING a row of the send buffer. -/
theorem store_my (j : Fin 3) {f : S3x512.Idx → Elt F .f32} {r : FVec F S1x512 .f32} {inb} {hx hm} {α : Type} {cont : PUnit → Prog (TpuEff nD τ sig (Elt F) Λ₀ .tc) α} {Q : α → sProp 𝕄} :
    myAll c f ⊢ iprop((myAll c (putRow j f r) -∗ wp frame (wpE (defs₀ (F := F)) 𝒱₀ c none) Set.univ (cont ⟨⟩) Q)
      -∗ wp frame (wpE (defs₀ (F := F)) 𝒱₀ c none) Set.univ (.op (.store myM (Rect.unit (s := S3x512) ![j.val, 0] S1x512.size inb) r Finset.univ hx hm) cont) Q) :=
  wp_store 𝒱₀ (c : Thread nD τ) none Set.univ (m := myM) (r := Rect.unit (s := S3x512) ![j.val, 0] S1x512.size inb) (Mk := Finset.univ) (Finset.subset_univ _)

/-- LOADING row `j` of the send buffer, once written. -/
theorem load_my (j : Fin 3) {inb} {hl} {α : Type} {cont : Vec F S1x512 .f32 → Prog (TpuEff nD τ sig (Elt F) Λ₀ .tc) α} {Q : α → sProp 𝕄} :
    myKeep c (stats I c) ⊢ iprop((myKeep c (stats I c) -∗ wp frame (wpE (defs₀ (F := F)) 𝒱₀ c none) Set.univ (cont (myRow I c j)) Q)
      -∗ wp frame (wpE (defs₀ (F := F)) 𝒱₀ c none) Set.univ (.op (.load myM (Rect.unit (s := S3x512) ![j.val, 0] S1x512.size inb).toLoadRect hl) cont) Q) := by
  unfold myKeep
  iintro H Hk
  iapply (wp_load 𝒱₀ (c : Thread nD τ) none Set.univ (m := myM) (Finset.subset_univ _)) $$ H
  rw [read_my]
  iexact Hk

/-- LOADING row `j` of slot `k`, once the exchange has landed. -/
theorem load_slot (k j : Fin 3) {inb} {hl} {α : Type} {cont : Vec F S1x1x512 .f32 → Prog (TpuEff nD τ sig (Elt F) Λ₀ .tc) α} {Q : α → sProp 𝕄} :
    slotsAll c (slots I c) ⊢ iprop((slotsAll c (slots I c) -∗ wp frame (wpE (defs₀ (F := F)) 𝒱₀ c none) Set.univ (cont (slotRow I c k j)) Q)
      -∗ wp frame (wpE (defs₀ (F := F)) 𝒱₀ c none) Set.univ (.op (.load slotsM (Rect.unit (s := S3x3x512) ![k.val, j.val, 0] S1x1x512.size inb).toLoadRect hl) cont) Q) := by
  unfold slotsAll
  iintro H Hk
  iapply (wp_load 𝒱₀ (c : Thread nD τ) none Set.univ (m := slotsM) (Finset.subset_univ _)) $$ H
  rw [read_slot]
  iexact Hk

end Cert.KernelIdeal.Xent

end
-- ==== Proof.Xent.Body1.lean ====
/- The body before the chunks, part by part: starting the sixteen weight copies, paying the peers' barriers and
   awaiting its own, loading the activations and labels. -/
module

public import proofs.«01_k».proof.Proof.Xent.Loads

@[expose] public section

noncomputable section

namespace Cert.KernelIdeal.Xent

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

variable {F : FTy → Type} [FloatOps F]

local notation "𝕄" => MT nD τ sig Unit (Elt F) ℕ UU ℕ

variable (I : Ins F) (K : GSem nD τ sig → ℕ) (c : Dev nD)

abbrev Ret1 : Type := Σ' (_ : Dev nD) (_ : BitVec 32) (_ : BitVec 32), BitVec 32
abbrev Ret4 : Type := Σ' (_ : Sems sig S_), BitVec 32

abbrev Ret5 (F : FTy → Type) [FloatOps F] : Type := Σ' (_ : FVec F S512x1024 .bf16) (_ : IVec S512x1 32) (_ : FVec F S512x1 .f32) (_ : FVec F S512x1 .f32), FVec F S512x1 .f32

/-- Weight copies 0 to 2 start. -/
theorem part1 (Q : Ret1 → sProp 𝕄) :
    iprop(recs I K ∗ wIdle I c 0 ∗ wIdle I c 1 ∗ wIdle I c 2
        ∗ (wBusy c 0 ∗ wBusy c 1 ∗ wBusy c 2 -∗ Q ⟨c, meshX c, meshY c, colBase c⟩))
      ⊢ wpc c (atArgs (k0_part1 (F := F)) ) Q := by
  rw [k0_part1_eq_skeleton]; unfold k0_part1_skel
  unfold colBase meshX meshY
  simp only [Prog.lift, Prog.bind_op, Prog.bind_ret, Prog.pure_eq_ret, wp_deviceId]
  iintro ⟨#HR, H0, H1, H2, Hk⟩
  iapply (copy_step I K c 0 (k0_off1 c 0#32) (off_eq c 0).1) $$ [H0]
  · isplitr; · iexact HR
    iexact H0
  iintro H0
  iapply (copy_step I K c 1 (k0_off2 c 0#32) (off_eq c 0).2.1) $$ [H1]
  · isplitr; · iexact HR
    iexact H1
  iintro H1
  iapply (copy_step I K c 2 (k0_off3 c 0#32) (off_eq c 0).2.2.1) $$ [H2]
  · isplitr; · iexact HR
    iexact H2
  iintro H2
  rw [wp_ret]; imodintro
  iapply Hk
  isplitl [H0]; · iexact H0
  isplitl [H1]; · iexact H1
  iexact H2

/-- Weight copies 3 to 7 start. -/
theorem part2 (v6 : BitVec 32) (Q : PUnit → sProp 𝕄) :
    iprop(recs I K ∗ wIdle I c 3 ∗ wIdle I c 4 ∗ wIdle I c 5 ∗ wIdle I c 6 ∗ wIdle I c 7
        ∗ (wBusy c 3 ∗ wBusy c 4 ∗ wBusy c 5 ∗ wBusy c 6 ∗ wBusy c 7 -∗ Q ⟨⟩))
      ⊢ wpc c (atArgs (k0_part2 (F := F)) c v6) Q := by
  rw [k0_part2_eq_skeleton]; unfold k0_part2_skel
  simp only [Prog.lift, Prog.bind_op, Prog.bind_ret, Prog.pure_eq_ret, wp_deviceId]
  iintro ⟨#HR, H3, H4, H5, H6, H7, Hk⟩
  iapply (copy_step I K c 3 (k0_off4 c 0#32) (off_eq c 0).2.2.2) $$ [H3]
  · isplitr; · iexact HR
    iexact H3
  iintro H3
  iapply (copy_step I K c 4 (k0_off1 c 1024#32) (off_eq c 1).1) $$ [H4]
  · isplitr; · iexact HR
    iexact H4
  iintro H4
  iapply (copy_step I K c 5 (k0_off2 c 1024#32) (off_eq c 1).2.1) $$ [H5]
  · isplitr; · iexact HR
    iexact H5
  iintro H5
  iapply (copy_step I K c 6 (k0_off3 c 1024#32) (off_eq c 1).2.2.1) $$ [H6]
  · isplitr; · iexact HR
    iexact H6
  iintro H6
  iapply (copy_step I K c 7 (k0_off4 c 1024#32) (off_eq c 1).2.2.2) $$ [H7]
  · isplitr; · iexact HR
    iexact H7
  iintro H7
  rw [wp_ret]; imodintro
  iapply Hk
  isplitl [H3]; · iexact H3
  isplitl [H4]; · iexact H4
  isplitl [H5]; · iexact H5
  isplitl [H6]; · iexact H6
  iexact H7

/-- Weight copies 8 to 11 start. -/
theorem part3 (v6 : BitVec 32) (Q : PUnit → sProp 𝕄) :
    iprop(recs I K ∗ wIdle I c 8 ∗ wIdle I c 9 ∗ wIdle I c 10 ∗ wIdle I c 11
        ∗ (wBusy c 8 ∗ wBusy c 9 ∗ wBusy c 10 ∗ wBusy c 11 -∗ Q ⟨⟩))
      ⊢ wpc c (atArgs (k0_part3 (F := F)) c v6) Q := by
  rw [k0_part3_eq_skeleton]; unfold k0_part3_skel
  simp only [Prog.lift, Prog.bind_op, Prog.bind_ret, Prog.pure_eq_ret, wp_deviceId]
  iintro ⟨#HR, H8, H9, H10, H11, Hk⟩
  iapply (copy_step I K c 8 (k0_off1 c 2048#32) (off_eq c 2).1) $$ [H8]
  · isplitr; · iexact HR
    iexact H8
  iintro H8
  iapply (copy_step I K c 9 (k0_off2 c 2048#32) (off_eq c 2).2.1) $$ [H9]
  · isplitr; · iexact HR
    iexact H9
  iintro H9
  iapply (copy_step I K c 10 (k0_off3 c 2048#32) (off_eq c 2).2.2.1) $$ [H10]
  · isplitr; · iexact HR
    iexact H10
  iintro H10
  iapply (copy_step I K c 11 (k0_off4 c 2048#32) (off_eq c 2).2.2.2) $$ [H11]
  · isplitr; · iexact HR
    iexact H11
  iintro H11
  rw [wp_ret]; imodintro
  iapply Hk
  isplitl [H8]; · iexact H8
  isplitl [H9]; · iexact H9
  isplitl [H10]; · iexact H10
  iexact H11

/-- Weight copies 12 to 15 start, and peer 0 is told that its slot here is ready. -/
theorem part4 (v2 v5 v6 : BitVec 32) (Q : Ret4 → sProp 𝕄) :
    iprop(recs I K ∗ wIdle I c 12 ∗ wIdle I c 13 ∗ wIdle I c 14 ∗ wIdle I c 15 ∗ sigTok c 0 ∗ owesE c (O₀ c)
        ∗ (wBusy c 12 ∗ wBusy c 13 ∗ wBusy c 14 ∗ wBusy c 15 ∗ owesE c (OR c + oweB c 2 + oweB c 1) -∗ Q ⟨SemArray.scalar (sig.barrier 0 rfl), Scalar.addi 0#32 (Scalar.muli (Scalar.subi 1#32 v2) 2#32)⟩))
      ⊢ wpc c (atArgs (k0_part4 (F := F)) c v2 v5 v6) Q := by
  rw [k0_part4_eq_skeleton]; unfold k0_part4_skel
  simp only [semSignalWord, semWaitWord, Prog.lift, Prog.bind_op, Prog.bind_ret, Prog.pure_eq_ret, wp_deviceId]
  iintro ⟨#HR, H12, H13, H14, H15, G0, HO, Hk⟩
  iapply (copy_step I K c 12 (k0_off1 c 3072#32) (off_eq c 3).1) $$ [H12]
  · isplitr; · iexact HR
    iexact H12
  iintro H12
  iapply (copy_step I K c 13 (k0_off2 c 3072#32) (off_eq c 3).2.1) $$ [H13]
  · isplitr; · iexact HR
    iexact H13
  iintro H13
  iapply (copy_step I K c 14 (k0_off3 c 3072#32) (off_eq c 3).2.2.1) $$ [H14]
  · isplitr; · iexact HR
    iexact H14
  iintro H14
  iapply (copy_step I K c 15 (k0_off4 c 3072#32) (off_eq c 3).2.2.2) $$ [H15]
  · isplitr; · iexact HR
    iexact H15
  iintro H15
  iapply (signal_step' I K c 0 _ (dev1_eq c)) $$ [G0 HO]
  · isplitr; · iexact HR
    isplitl [G0]; · iexact G0
    iexact HO
  iintro HO
  rw [wp_ret]; imodintro
  iapply Hk
  isplitl [H12]; · iexact H12
  isplitl [H13]; · iexact H13
  isplitl [H14]; · iexact H14
  isplitl [H15]; · iexact H15
  iexact HO

/-- Peers 1 and 2 are told, the three peers' units awaited, activations and labels loaded, weight copy 0 awaited. -/
theorem part5 (v2 v5 v6 v111 : BitVec 32) (Q : Ret5 F → sProp 𝕄) :
    iprop(recs I K ∗ levAts L lv ∗ wBusy c 0 ∗ sigTok c 1 ∗ sigTok c 2 ∗ cred (tallyAt (barCell c) () 3) ∗ atPos ER (barCell c) 0 ∅ 0 ∗ xPts c (I.x c) ∗ labPts c (I.lab c) ∗ owesE c (OR c + oweB c 2 + oweB c 1)
        ∗ (wDone I c 0 ∗ atPos ER (barCell c) (0 + 1) ∅ 0 ∗ barPay c 0 ∗ barPay c 1 ∗ barPay c 2 ∗ xPts c (I.x c) ∗ labPts c (I.lab c) ∗ owesE c (OR c) -∗ Q ⟨xb I c, lb I c, k0_pay4 (F := F), k0_pay5 (F := F), k0_pay6 (F := F)⟩))
      ⊢ wpc c (atArgs (k0_part5 (F := F)) c v2 v5 v6 (SemArray.scalar (sig.barrier 0 rfl)) v111) Q := by
  rw [k0_part5_eq_skeleton]; unfold k0_part5_skel
  unfold xb lb
  simp only [semSignalWord, semWaitWord, Prog.lift, Prog.bind_op, Prog.bind_ret, Prog.pure_eq_ret, wp_deviceId]
  iintro ⟨#HR, #Hlev, H0, G1, G2, Hcr, Hat, Hx, Hl, HO, Hk⟩
  iapply (signal_step' I K c 1 _ (dev2_eq c)) $$ [G1 HO]
  · isplitr; · iexact HR
    isplitl [G1]; · iexact G1
    iexact HO
  iintro HO
  iapply (signal_step' I K c 2 _ (dev3_eq c)) $$ [G2 HO]
  · isplitr; · iexact HR
    isplitl [G2]; · iexact G2
    iexact HO
  iintro HO
  iapply (barrier_step I K c) $$ [Hcr Hat HO]
  · isplitr; · iexact HR
    isplitr; · iexact Hlev
    isplitl [Hcr]; · iexact Hcr
    isplitl [Hat]; · iexact Hat
    iexact HO
  iintro ⟨HO, Hat, B0, B1, B2⟩
  iapply (load_x c) $$ [Hx]
  · iexact Hx
  iintro Hx
  iapply (load_lab c) $$ [Hl]
  · iexact Hl
  iintro Hl
  iapply (wait_step I K c 0) $$ [H0 HO]
  · isplitr; · iexact HR
    isplitr; · iexact Hlev
    isplitl [H0]; · iexact H0
    iexact HO
  iintro ⟨H0, HO⟩
  rw [wp_ret]; imodintro
  iapply Hk
  isplitl [H0]; · iexact H0
  isplitl [Hat]; · iexact Hat
  isplitl [B0]; · iexact B0
  isplitl [B1]; · iexact B1
  isplitl [B2]; · iexact B2
  isplitl [Hx]; · iexact Hx
  isplitl [Hl]; · iexact Hl
  iexact HO

end Cert.KernelIdeal.Xent

end
-- ==== Proof.Xent.Body2.lean ====
/- The four chunks, part by part: awaiting their copies and folding each into the running maximum, sum and
   label's logit, then writing the three rows. -/
module

public import proofs.«01_k».proof.Proof.Xent.Body1

@[expose] public section

noncomputable section

namespace Cert.KernelIdeal.Xent

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

variable {F : FTy → Type} [FloatOps F]

local notation "𝕄" => MT nD τ sig Unit (Elt F) ℕ UU ℕ

variable (I : Ins F) (K : GSem nD τ sig → ℕ) (c : Dev nD)

abbrev Ret6 (F : FTy → Type) [FloatOps F] : Type := Σ' (_ : FVec F S512x1024 .f32) (_ : FVec F S512x1 .f32) (_ : FVec F S512x1 .f32) (_ : IVec S512x1024 1), F .f32
abbrev Ret8 (F : FTy → Type) [FloatOps F] : Type := Σ' (_ : FVec F S512x1 .f32) (_ : FVec F S512x1 .f32), FVec F S512x1 .f32
abbrev Ret9 (F : FTy → Type) [FloatOps F] : Type := Σ' (_ : FVec F S512x1024 .f32) (_ : FVec F S512x1 .f32) (_ : FVec F S512x1 .f32) (_ : IVec S512x1024 32), IVec S512x1024 32

/-- Four landed copies of one chunk, together. -/
theorem chunk_done (i : Fin 4) : iprop(wDone I c (pc i 0) ∗ wDone I c (pc i 1) ∗ wDone I c (pc i 2) ∗ wDone I c (pc i 3)) ⊢ cDone I c i := by
  unfold cDone; exact BI.Entails.refl _

/-- The rest of chunk 0 is awaited and read. -/
theorem part6 (Q : Ret6 F → sProp 𝕄) :
    iprop(recs I K ∗ levAts L lv ∗ wDone I c 0 ∗ wBusy c 1 ∗ wBusy c 2 ∗ wBusy c 3 ∗ owesE c (OR c)
        ∗ (cDone I c 0 ∗ owesE c (OR c) -∗ Q ⟨k0_pay7 (xb I c) (chunk c (I.w c) 0), m1 I c, s1 I c, k0_pay10 (meshY c) (colBase c) (lb I c), Scalar.ofBits .f32 0x00000000#32⟩))
      ⊢ wpc c (atArgs (k0_part6 (F := F)) c (meshY c) (colBase c) (xb I c) (lb I c) (k0_pay4 (F := F)) (k0_pay5 (F := F))) Q := by
  rw [k0_part6_eq_skeleton]; unfold k0_part6_skel
  unfold m1 s1
  simp only [Prog.lift, Prog.bind_op, Prog.bind_ret, Prog.pure_eq_ret, wp_deviceId]
  iintro ⟨#HR, #Hlev, H0, H1, H2, H3, HO, Hk⟩
  iapply (wait_step I K c 1) $$ [H1 HO]
  · isplitr; · iexact HR
    isplitr; · iexact Hlev
    isplitl [H1]; · iexact H1
    iexact HO
  iintro ⟨H1, HO⟩
  iapply (wait_step I K c 2) $$ [H2 HO]
  · isplitr; · iexact HR
    isplitr; · iexact Hlev
    isplitl [H2]; · iexact H2
    iexact HO
  iintro ⟨H2, HO⟩
  iapply (wait_step I K c 3) $$ [H3 HO]
  · isplitr; · iexact HR
    isplitr; · iexact Hlev
    isplitl [H3]; · iexact H3
    iexact HO
  iintro ⟨H3, HO⟩
  ihave C0 := (chunk_done I c 0) $$ [H0 H1 H2 H3]
  · isplitl [H0]; · iexact H0
    isplitl [H1]; · iexact H1
    isplitl [H2]; · iexact H2
    iexact H3
  iapply (load_chunk I c 0) $$ [C0]
  · iexact C0
  iintro C0
  rw [wp_ret]; imodintro
  iapply Hk
  isplitl [C0]; · iexact C0
  iexact HO

/-- Chunk 1 is awaited. -/
theorem part7 (Q : FVec F S512x1 .f32 → sProp 𝕄) :
    iprop(recs I K ∗ levAts L lv ∗ wBusy c 4 ∗ wBusy c 5 ∗ wBusy c 6 ∗ wBusy c 7 ∗ owesE c (OR c)
        ∗ (wDone I c 4 ∗ wDone I c 5 ∗ wDone I c 6 ∗ wDone I c 7 ∗ owesE c (OR c) -∗ Q (t1 I c)))
      ⊢ wpc c (atArgs (k0_part7 (F := F)) c (colBase c) (k0_pay6 (F := F)) (k0_pay7 (xb I c) (chunk c (I.w c) 0)) (k0_pay10 (meshY c) (colBase c) (lb I c)) (Scalar.ofBits .f32 0x00000000#32)) Q := by
  rw [k0_part7_eq_skeleton]; unfold k0_part7_skel
  unfold t1
  simp only [Prog.lift, Prog.bind_op, Prog.bind_ret, Prog.pure_eq_ret, wp_deviceId]
  iintro ⟨#HR, #Hlev, H4, H5, H6, H7, HO, Hk⟩
  iapply (wait_step I K c 4) $$ [H4 HO]
  · isplitr; · iexact HR
    isplitr; · iexact Hlev
    isplitl [H4]; · iexact H4
    iexact HO
  iintro ⟨H4, HO⟩
  iapply (wait_step I K c 5) $$ [H5 HO]
  · isplitr; · iexact HR
    isplitr; · iexact Hlev
    isplitl [H5]; · iexact H5
    iexact HO
  iintro ⟨H5, HO⟩
  iapply (wait_step I K c 6) $$ [H6 HO]
  · isplitr; · iexact HR
    isplitr; · iexact Hlev
    isplitl [H6]; · iexact H6
    iexact HO
  iintro ⟨H6, HO⟩
  iapply (wait_step I K c 7) $$ [H7 HO]
  · isplitr; · iexact HR
    isplitr; · iexact Hlev
    isplitl [H7]; · iexact H7
    iexact HO
  iintro ⟨H7, HO⟩
  rw [wp_ret]; imodintro
  iapply Hk
  isplitl [H4]; · iexact H4
  isplitl [H5]; · iexact H5
  isplitl [H6]; · iexact H6
  isplitl [H7]; · iexact H7
  iexact HO

/-- Chunk 1 is read and folded in. -/
theorem part8 (Q : Ret8 F → sProp 𝕄) :
    iprop(recs I K ∗ levAts L lv ∗ wDone I c 4 ∗ wDone I c 5 ∗ wDone I c 6 ∗ wDone I c 7 ∗ wBusy c 8 ∗ owesE c (OR c)
        ∗ (cDone I c 1 ∗ wDone I c 8 ∗ owesE c (OR c) -∗ Q ⟨m2 I c, s2 I c, t2 I c⟩))
      ⊢ wpc c (atArgs (k0_part8 (F := F)) c (meshY c) (colBase c) (xb I c) (lb I c) (m1 I c) (s1 I c) (t1 I c)) Q := by
  rw [k0_part8_eq_skeleton]; unfold k0_part8_skel
  unfold m2 s2 t2
  simp only [Prog.lift, Prog.bind_op, Prog.bind_ret, Prog.pure_eq_ret, wp_deviceId]
  iintro ⟨#HR, #Hlev, H4, H5, H6, H7, H8, HO, Hk⟩
  ihave C1 := (chunk_done I c 1) $$ [H4 H5 H6 H7]
  · isplitl [H4]; · iexact H4
    isplitl [H5]; · iexact H5
    isplitl [H6]; · iexact H6
    iexact H7
  iapply (load_chunk I c 1) $$ [C1]
  · iexact C1
  iintro C1
  iapply (wait_step I K c 8) $$ [H8 HO]
  · isplitr; · iexact HR
    isplitr; · iexact Hlev
    isplitl [H8]; · iexact H8
    iexact HO
  iintro ⟨H8, HO⟩
  rw [wp_ret]; imodintro
  iapply Hk
  isplitl [C1]; · iexact C1
  isplitl [H8]; · iexact H8
  iexact HO

/-- Chunk 2 is awaited and read. -/
theorem part9 (Q : Ret9 F → sProp 𝕄) :
    iprop(recs I K ∗ levAts L lv ∗ wDone I c 8 ∗ wBusy c 9 ∗ wBusy c 10 ∗ wBusy c 11 ∗ owesE c (OR c)
        ∗ (cDone I c 2 ∗ owesE c (OR c) -∗ Q ⟨k0_pay16 (xb I c) (chunk c (I.w c) 2), m3 I c, s3 I c, k0_pay19 (meshY c) (colBase c), k0_pay20 (lb I c)⟩))
      ⊢ wpc c (atArgs (k0_part9 (F := F)) c (meshY c) (colBase c) (xb I c) (lb I c) (m2 I c) (s2 I c)) Q := by
  rw [k0_part9_eq_skeleton]; unfold k0_part9_skel
  unfold m3 s3
  simp only [Prog.lift, Prog.bind_op, Prog.bind_ret, Prog.pure_eq_ret, wp_deviceId]
  iintro ⟨#HR, #Hlev, H8, H9, H10, H11, HO, Hk⟩
  iapply (wait_step I K c 9) $$ [H9 HO]
  · isplitr; · iexact HR
    isplitr; · iexact Hlev
    isplitl [H9]; · iexact H9
    iexact HO
  iintro ⟨H9, HO⟩
  iapply (wait_step I K c 10) $$ [H10 HO]
  · isplitr; · iexact HR
    isplitr; · iexact Hlev
    isplitl [H10]; · iexact H10
    iexact HO
  iintro ⟨H10, HO⟩
  iapply (wait_step I K c 11) $$ [H11 HO]
  · isplitr; · iexact HR
    isplitr; · iexact Hlev
    isplitl [H11]; · iexact H11
    iexact HO
  iintro ⟨H11, HO⟩
  ihave C2 := (chunk_done I c 2) $$ [H8 H9 H10 H11]
  · isplitl [H8]; · iexact H8
    isplitl [H9]; · iexact H9
    isplitl [H10]; · iexact H10
    iexact H11
  iapply (load_chunk I c 2) $$ [C2]
  · iexact C2
  iintro C2
  rw [wp_ret]; imodintro
  iapply Hk
  isplitl [C2]; · iexact C2
  iexact HO

/-- Chunk 3 is awaited. -/
theorem part10 (Q : FVec F S512x1 .f32 → sProp 𝕄) :
    iprop(recs I K ∗ levAts L lv ∗ wBusy c 12 ∗ wBusy c 13 ∗ wBusy c 14 ∗ wBusy c 15 ∗ owesE c (OR c)
        ∗ (wDone I c 12 ∗ wDone I c 13 ∗ wDone I c 14 ∗ wDone I c 15 ∗ owesE c (OR c) -∗ Q (t3 I c)))
      ⊢ wpc c (atArgs (k0_part10 (F := F)) c (colBase c) (t2 I c) (k0_pay16 (xb I c) (chunk c (I.w c) 2)) (k0_pay19 (meshY c) (colBase c)) (k0_pay20 (lb I c))) Q := by
  rw [k0_part10_eq_skeleton]; unfold k0_part10_skel
  unfold t3
  simp only [Prog.lift, Prog.bind_op, Prog.bind_ret, Prog.pure_eq_ret, wp_deviceId]
  iintro ⟨#HR, #Hlev, H12, H13, H14, H15, HO, Hk⟩
  iapply (wait_step I K c 12) $$ [H12 HO]
  · isplitr; · iexact HR
    isplitr; · iexact Hlev
    isplitl [H12]; · iexact H12
    iexact HO
  iintro ⟨H12, HO⟩
  iapply (wait_step I K c 13) $$ [H13 HO]
  · isplitr; · iexact HR
    isplitr; · iexact Hlev
    isplitl [H13]; · iexact H13
    iexact HO
  iintro ⟨H13, HO⟩
  iapply (wait_step I K c 14) $$ [H14 HO]
  · isplitr; · iexact HR
    isplitr; · iexact Hlev
    isplitl [H14]; · iexact H14
    iexact HO
  iintro ⟨H14, HO⟩
  iapply (wait_step I K c 15) $$ [H15 HO]
  · isplitr; · iexact HR
    isplitr; · iexact Hlev
    isplitl [H15]; · iexact H15
    iexact HO
  iintro ⟨H15, HO⟩
  rw [wp_ret]; imodintro
  iapply Hk
  isplitl [H12]; · iexact H12
  isplitl [H13]; · iexact H13
  isplitl [H14]; · iexact H14
  isplitl [H15]; · iexact H15
  iexact HO

/-- Chunk 3 is read and folded in, and the three rows are written. -/
theorem part11 (f : S3x512.Idx → Elt F .f32) (Q : PUnit → sProp 𝕄) :
    iprop(wDone I c 12 ∗ wDone I c 13 ∗ wDone I c 14 ∗ wDone I c 15 ∗ myAll c f
        ∗ (cDone I c 3 ∗ myAll c (stats I c) -∗ Q ⟨⟩))
      ⊢ wpc c (atArgs (k0_part11 (F := F)) (meshY c) (colBase c) (xb I c) (lb I c) (m3 I c) (s3 I c) (t3 I c)) Q := by
  rw [k0_part11_eq_skeleton]; unfold k0_part11_skel
  simp only [Prog.lift, Prog.bind_op, Prog.bind_ret, Prog.pure_eq_ret, wp_deviceId]
  iintro ⟨H12, H13, H14, H15, Hm, Hk⟩
  ihave C3 := (chunk_done I c 3) $$ [H12 H13 H14 H15]
  · isplitl [H12]; · iexact H12
    isplitl [H13]; · iexact H13
    isplitl [H14]; · iexact H14
    iexact H15
  iapply (load_chunk I c 3) $$ [C3]
  · iexact C3
  iintro C3
  iapply (load_my_any c 0) $$ [Hm]
  · iexact Hm
  iintro Hm
  iapply (store_my c 0) $$ [Hm]
  · iexact Hm
  iintro Hm
  iapply (load_my_any c 1) $$ [Hm]
  · iexact Hm
  iintro Hm
  iapply (store_my c 1) $$ [Hm]
  · iexact Hm
  iintro Hm
  iapply (load_my_any c 2) $$ [Hm]
  · iexact Hm
  iintro Hm
  iapply (store_my c 2) $$ [Hm]
  · iexact Hm
  iintro Hm
  have e := put_rows I c f
  unfold rowM rowS rowT at e
  rw [e]
  rw [wp_ret]; imodintro
  iapply Hk
  isplitl [C3]; · iexact C3
  iexact Hm

end Cert.KernelIdeal.Xent

end
-- ==== Proof.Xent.Body3.lean ====
/- The exchange, part by part: the three sends, their waits and the landings, the reads of the combined rows; and the
   whole body. -/
module

public import proofs.«01_k».proof.Proof.Xent.Body2

@[expose] public section

noncomputable section

namespace Cert.KernelIdeal.Xent

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

variable {F : FTy → Type} [FloatOps F]

local notation "𝕄" => MT nD τ sig Unit (Elt F) ℕ UU ℕ

variable (I : Ins F) (K : GSem nD τ sig → ℕ) (c : Dev nD)

abbrev Ret12 : Type := Σ' (_ : BitVec 32) (_ : BitVec 32) (_ : BitVec 32), BitVec 32
abbrev Ret14 (F : FTy → Type) [FloatOps F] : Type := Σ' (_ : Vec F S1x512 .f32) (_ : FVec F S1x512 .f32) (_ : FVec F S1x512 .f32) (_ : FVec F S1x512 .f32) (_ : Vec F S1x512 .f32) (_ : FVec F S1x512 .f32), FVec F S1x512 .f32
abbrev Ret15 (F : FTy → Type) [FloatOps F] : Type := Σ' (_ : FVec F S1x512 .f32) (_ : FVec F S1x512 .f32) (_ : FVec F S1x512 .f32), FVec F S1x512 .f32

/-- The receive buffer out of its three slots. -/
theorem slots_join (f : S3x3x512.Idx → Elt F .f32) : iprop(slotPts c 0 f ∗ slotPts c 1 f ∗ slotPts c 2 f) ⊢ slotsAll c f := by
  unfold slotsAll slotPts
  refine Entails.of_eq (Eq.symm ?_)
  refine (Ring.pointsTo_sub_blocks (ℓ := slotsM.view.loc (c : Thread nD τ)) slotSet (fun j j' h => slot_disjoint j j' h) Finset.univ slot_cover f).trans ?_
  rw [bigSep_3]

/-- Slot `k` after its landing: its cell's round past, its rows in place. -/
def rAt (k : Fin 3) : sProp 𝕄 := atPos ER (ownCell c (rIx k)) (0 + 1) ∅ 0

theorem landed_all : iprop(rDone I c 0 ∗ rDone I c 1 ∗ rDone I c 2) ⊢ iprop(rAt c 0 ∗ rAt c 1 ∗ rAt c 2 ∗ slotsAll c (slots I c)) := by
  unfold rDone rAt rPay
  iintro ⟨⟨A0, P0⟩, ⟨A1, P1⟩, ⟨A2, P2⟩⟩
  isplitl [A0]; · iexact A0
  isplitl [A1]; · iexact A1
  isplitl [A2]; · iexact A2
  iapply (slots_join c (slots I c))
  isplitl [P0]; · iexact P0
  isplitl [P1]; · iexact P1
  iexact P2

/-- The rows are sent to peers 0 and 1. -/
theorem part12 (v2 v5 : BitVec 32) (Q : Ret12 → sProp 𝕄) :
    iprop(recs I K ∗ sIdle c 0 ∗ barPay c 0 ∗ myPts c 0 (stats I c) ∗ sIdle c 1 ∗ barPay c 1 ∗ myPts c 1 (stats I c) ∗ owesE c (OR c)
        ∗ (sBusy c 0 ∗ sBusy c 1 ∗ owesE c (oweR c 2) -∗ Q ⟨Scalar.subi 1#32 v5, Scalar.subi 1#32 v2, Scalar.subi 1#32 v2, Scalar.subi 1#32 v5⟩))
      ⊢ wpc c (atArgs (k0_part12 (F := F)) c v2 v5) Q := by
  rw [k0_part12_eq_skeleton]; unfold k0_part12_skel
  unfold OR
  simp only [Prog.lift, Prog.bind_op, Prog.bind_ret, Prog.pure_eq_ret, wp_deviceId]
  iintro ⟨#HR, S0, B0, M0, S1, B1, M1, HO, Hk⟩
  iapply (send_step I K c 0 _ (dev4_eq c)) $$ [S0 B0 M0 HO]
  · isplitr; · iexact HR
    isplitl [S0]; · iexact S0
    isplitl [B0]; · iexact B0
    isplitl [M0]; · iexact M0
    iexact HO
  iintro ⟨S0, HO⟩
  iapply (send_step I K c 1 _ (dev5_eq c)) $$ [S1 B1 M1 HO]
  · isplitr; · iexact HR
    isplitl [S1]; · iexact S1
    isplitl [B1]; · iexact B1
    isplitl [M1]; · iexact M1
    iexact HO
  iintro ⟨S1, HO⟩
  rw [wp_ret]; imodintro
  iapply Hk
  isplitl [S0]; · iexact S0
  isplitl [S1]; · iexact S1
  iexact HO

/-- The rows are sent to peer 2; two sends and a landing are awaited. -/
theorem part13 (v2 v5 v352 v363 : BitVec 32) (Q : PUnit → sProp 𝕄) :
    iprop(recs I K ∗ sIdle c 2 ∗ barPay c 2 ∗ myPts c 2 (stats I c) ∗ sBusy c 0 ∗ sBusy c 1 ∗ rWait c 0 ∗ owesE c (oweR c 2)
        ∗ (sBusy c 2 ∗ sDone I c 0 ∗ sDone I c 1 ∗ rDone I c 0 ∗ owesE c 0 -∗ Q ⟨⟩))
      ⊢ wpc c (atArgs (k0_part13 (F := F)) c v2 v5 v352 v363) Q := by
  rw [k0_part13_eq_skeleton]; unfold k0_part13_skel
  rw [← zero_add (oweR c 2)]
  simp only [Prog.lift, Prog.bind_op, Prog.bind_ret, Prog.pure_eq_ret, wp_deviceId]
  iintro ⟨#HR, S2, B2, M2, S0, S1, R0, HO, Hk⟩
  iapply (send_step I K c 2 _ (dev6_eq c)) $$ [S2 B2 M2 HO]
  · isplitr; · iexact HR
    isplitl [S2]; · iexact S2
    isplitl [B2]; · iexact B2
    isplitl [M2]; · iexact M2
    iexact HO
  iintro ⟨S2, HO⟩
  iapply (sent_step I K c 0) $$ [S0 HO]
  · isplitr; · iexact HR
    isplitl [S0]; · iexact S0
    iexact HO
  iintro ⟨S0, HO⟩
  iapply (landed_step I K c 0) $$ [R0 HO]
  · isplitr; · iexact HR
    isplitl [R0]; · iexact R0
    iexact HO
  iintro ⟨R0, HO⟩
  iapply (sent_step I K c 1) $$ [S1 HO]
  · isplitr; · iexact HR
    isplitl [S1]; · iexact S1
    iexact HO
  iintro ⟨S1, HO⟩
  rw [wp_ret]; imodintro
  iapply Hk
  isplitl [S2]; · iexact S2
  isplitl [S0]; · iexact S0
  isplitl [S1]; · iexact S1
  isplitl [R0]; · iexact R0
  iexact HO

/-- The last waits, and the reads of the maxima and of two sums. -/
theorem part14 (v374 v375 : BitVec 32) (Q : Ret14 F → sProp 𝕄) :
    iprop(recs I K ∗ rDone I c 0 ∗ rWait c 1 ∗ rWait c 2 ∗ sBusy c 2 ∗ myKeep c (stats I c) ∗ owesE c 0
        ∗ (rAt c 0 ∗ rAt c 1 ∗ rAt c 2 ∗ slotsAll c (slots I c) ∗ sDone I c 2 ∗ myKeep c (stats I c) ∗ owesE c 0 -∗ Q ⟨myRow I c 0, k0_pay27 (slotRow I c 0 0), k0_pay28 (slotRow I c 1 0), k0_pay29 (slotRow I c 2 0), myRow I c 1, k0_pay30 (slotRow I c 0 1), k0_pay31 (slotRow I c 1 1)⟩))
      ⊢ wpc c (atArgs (k0_part14 (F := F)) v374 v375) Q := by
  rw [k0_part14_eq_skeleton]; unfold k0_part14_skel
  simp only [Prog.lift, Prog.bind_op, Prog.bind_ret, Prog.pure_eq_ret, wp_deviceId]
  iintro ⟨#HR, R0, R1, R2, S2, Hm, HO, Hk⟩
  iapply (landed_step I K c 1) $$ [R1 HO]
  · isplitr; · iexact HR
    isplitl [R1]; · iexact R1
    iexact HO
  iintro ⟨R1, HO⟩
  iapply (sent_step I K c 2) $$ [S2 HO]
  · isplitr; · iexact HR
    isplitl [S2]; · iexact S2
    iexact HO
  iintro ⟨S2, HO⟩
  iapply (landed_step I K c 2) $$ [R2 HO]
  · isplitr; · iexact HR
    isplitl [R2]; · iexact R2
    iexact HO
  iintro ⟨R2, HO⟩
  ihave HL := (landed_all I c) $$ [R0 R1 R2]
  · isplitl [R0]; · iexact R0
    isplitl [R1]; · iexact R1
    iexact R2
  icases HL with ⟨A0, A1, A2, Hs⟩
  iapply (load_my I c 0) $$ [Hm]
  · iexact Hm
  iintro Hm
  iapply (load_slot I c 0 0) $$ [Hs]
  · iexact Hs
  iintro Hs
  iapply (load_slot I c 1 0) $$ [Hs]
  · iexact Hs
  iintro Hs
  iapply (load_slot I c 2 0) $$ [Hs]
  · iexact Hs
  iintro Hs
  iapply (load_my I c 1) $$ [Hm]
  · iexact Hm
  iintro Hm
  iapply (load_slot I c 0 1) $$ [Hs]
  · iexact Hs
  iintro Hs
  iapply (load_slot I c 1 1) $$ [Hs]
  · iexact Hs
  iintro Hs
  rw [wp_ret]; imodintro
  iapply Hk
  isplitl [A0]; · iexact A0
  isplitl [A1]; · iexact A1
  isplitl [A2]; · iexact A2
  isplitl [Hs]; · iexact Hs
  isplitl [S2]; · iexact S2
  isplitl [Hm]; · iexact Hm
  iexact HO

/-- The written send buffer, shared out: one share kept, one for each send. -/
theorem my_split : myAll c (stats I c) ⊢ iprop(myKeep c (stats I c) ∗ myPts c 0 (stats I c) ∗ myPts c 1 (stats I c) ∗ myPts c 2 (stats I c)) := by
  have hs : myM.view.set = Finset.univ := View.set_whole cc0_scratch1
  unfold myAll myKeep myPts
  rw [hs, ← bigSep_3 (fun k : Fin 3 => myM.view.loc (c : Thread nD τ) ↦[Finset.univ]{Transfers.shareTokN fullShare k.val} stats I c)]
  exact Transfers.pointsTo_toks_split fullShare 3

theorem my_join : iprop(myKeep c (stats I c) ∗ myPts c 0 (stats I c) ∗ myPts c 1 (stats I c) ∗ myPts c 2 (stats I c)) ⊢ myAll c (stats I c) := by
  have hs : myM.view.set = Finset.univ := View.set_whole cc0_scratch1
  unfold myAll myKeep myPts
  rw [hs, ← bigSep_3 (fun k : Fin 3 => myM.view.loc (c : Thread nD τ) ↦[Finset.univ]{Transfers.shareTokN fullShare k.val} stats I c)]
  exact Transfers.pointsTo_toks_join fullShare 3

/-- What the body is entered with, beside the records of the cells. -/
def bodyPre : sProp 𝕄 :=
  iprop((bigSep Finset.univ fun k : Fin 16 => wIdle I c k) ∗ (bigSep Finset.univ fun k : Fin 3 => sIdle c k)
    ∗ (bigSep Finset.univ fun k : Fin 3 => rWait c k) ∗ (bigSep Finset.univ fun k : Fin 3 => sigTok c k)
    ∗ atPos ER (barCell c) 0 ∅ 0 ∗ cred (tallyAt (barCell c) () 3)
    ∗ xPts c (I.x c) ∗ labPts c (I.lab c) ∗ (∃ f, outPts c f) ∗ (∃ f, myAll c f) ∗ owesE c (O₀ c))

/-- What it holds after its last wait. -/
def bodyMid : sProp 𝕄 :=
  iprop(cDone I c 0 ∗ cDone I c 1 ∗ cDone I c 2 ∗ cDone I c 3 ∗ sDone I c 0 ∗ sDone I c 1 ∗ sDone I c 2 ∗ rAt c 0 ∗ rAt c 1 ∗ rAt c 2
    ∗ slotsAll c (slots I c) ∗ myKeep c (stats I c) ∗ atPos ER (barCell c) (0 + 1) ∅ 0 ∗ xPts c (I.x c) ∗ labPts c (I.lab c) ∗ owesE c 0)

def wbufAll (f : S4x1024x1024.Idx → Elt F .f32) : sProp 𝕄 := wbufM.view.loc (c : Thread nD τ) ↦[Finset.univ]{fullShare} f

/-- What it leaves: every semaphore back at zero, the output row, and all buffers. -/
def bodyPost : sProp 𝕄 :=
  iprop(semVal (barCell c) 0 ∗ (bigSep Finset.univ fun j : Fin 22 => semVal (ownCell c j) 0)
    ∗ (bigSep Finset.univ fun k : Fin 16 => srcPts c k (I.w c))
    ∗ wbufAll c (wbuf c (I.w c)) ∗ slotsAll c (slots I c) ∗ myAll c (stats I c)
    ∗ xPts c (I.x c) ∗ labPts c (I.lab c) ∗ outPts c (outRow I c) ∗ owesE c 0)

/-- Everything up to the output's store. -/
theorem part15 (Q : Ret15 F → sProp 𝕄) :
    iprop(recs I K ∗ levAts L lv ∗ (bigSep Finset.univ fun k : Fin 16 => wIdle I c k) ∗ (bigSep Finset.univ fun k : Fin 3 => sIdle c k)
        ∗ (bigSep Finset.univ fun k : Fin 3 => rWait c k) ∗ (bigSep Finset.univ fun k : Fin 3 => sigTok c k)
        ∗ atPos ER (barCell c) 0 ∅ 0 ∗ cred (tallyAt (barCell c) () 3)
        ∗ xPts c (I.x c) ∗ labPts c (I.lab c) ∗ (∃ f, myAll c f) ∗ owesE c (O₀ c)
        ∗ (bodyMid I c -∗ Q ⟨k0_pay32 (slotRow I c 2 2),
    k0_pay33 (myRow I c 0) (k0_pay27 (slotRow I c 0 0)) (k0_pay28 (slotRow I c 1 0)) (k0_pay29 (slotRow I c 2 0)),
    k0_pay34 (myRow I c 0) (k0_pay27 (slotRow I c 0 0)) (k0_pay28 (slotRow I c 1 0)) (k0_pay29 (slotRow I c 2 0))
      (myRow I c 1) (k0_pay30 (slotRow I c 0 1)) (k0_pay31 (slotRow I c 1 1)) (slotRow I c 2 1),
    k0_pay35 (myRow I c 2) (slotRow I c 0 2) (slotRow I c 1 2)⟩))
      ⊢ wpc c (atArgs (k0_part15 (F := F))) Q := by
  rw [k0_part15_eq_skeleton]; unfold k0_part15_skel
  dsimp only [atArgs, wpc]
  rw [bigSep_16, bigSep_3, bigSep_3, bigSep_3]
  iintro ⟨#HR, #Hlev, ⟨H0, H1, H2, H3, H4, H5, H6, H7, H8, H9, H10, H11, H12, H13, H14, H15⟩, ⟨S0, S1, S2⟩, ⟨R0, R1, R2⟩, ⟨G0, G1, G2⟩, Hat, Hcr, Hx, Hl, ⟨%f, Hm⟩, HO, Hk⟩
  rw [wp_bind]
  iapply (part1 I K c _)
  isplitr; · iexact HR
  isplitl [H0]; · iexact H0
  isplitl [H1]; · iexact H1
  isplitl [H2]; · iexact H2
  iintro ⟨H0, H1, H2⟩
  dsimp only
  rw [wp_bind]
  iapply (part2 I K c _ _)
  isplitr; · iexact HR
  isplitl [H3]; · iexact H3
  isplitl [H4]; · iexact H4
  isplitl [H5]; · iexact H5
  isplitl [H6]; · iexact H6
  isplitl [H7]; · iexact H7
  iintro ⟨H3, H4, H5, H6, H7⟩
  rw [wp_bind]
  iapply (part3 I K c _ _)
  isplitr; · iexact HR
  isplitl [H8]; · iexact H8
  isplitl [H9]; · iexact H9
  isplitl [H10]; · iexact H10
  isplitl [H11]; · iexact H11
  iintro ⟨H8, H9, H10, H11⟩
  rw [wp_bind]
  iapply (part4 I K c _ _ _ _)
  isplitr; · iexact HR
  isplitl [H12]; · iexact H12
  isplitl [H13]; · iexact H13
  isplitl [H14]; · iexact H14
  isplitl [H15]; · iexact H15
  isplitl [G0]; · iexact G0
  isplitl [HO]; · iexact HO
  iintro ⟨H12, H13, H14, H15, HO⟩
  dsimp only
  rw [wp_bind]
  iapply (part5 I K c _ _ _ _ _)
  isplitr; · iexact HR
  isplitr; · iexact Hlev
  isplitl [H0]; · iexact H0
  isplitl [G1]; · iexact G1
  isplitl [G2]; · iexact G2
  isplitl [Hcr]; · iexact Hcr
  isplitl [Hat]; · iexact Hat
  isplitl [Hx]; · iexact Hx
  isplitl [Hl]; · iexact Hl
  isplitl [HO]; · iexact HO
  iintro ⟨H0, Hat, B0, B1, B2, Hx, Hl, HO⟩
  dsimp only
  rw [wp_bind]
  iapply (part6 I K c _)
  isplitr; · iexact HR
  isplitr; · iexact Hlev
  isplitl [H0]; · iexact H0
  isplitl [H1]; · iexact H1
  isplitl [H2]; · iexact H2
  isplitl [H3]; · iexact H3
  isplitl [HO]; · iexact HO
  iintro ⟨C0, HO⟩
  dsimp only
  rw [wp_bind]
  iapply (part7 I K c _)
  isplitr; · iexact HR
  isplitr; · iexact Hlev
  isplitl [H4]; · iexact H4
  isplitl [H5]; · iexact H5
  isplitl [H6]; · iexact H6
  isplitl [H7]; · iexact H7
  isplitl [HO]; · iexact HO
  iintro ⟨H4, H5, H6, H7, HO⟩
  rw [wp_bind]
  iapply (part8 I K c _)
  isplitr; · iexact HR
  isplitr; · iexact Hlev
  isplitl [H4]; · iexact H4
  isplitl [H5]; · iexact H5
  isplitl [H6]; · iexact H6
  isplitl [H7]; · iexact H7
  isplitl [H8]; · iexact H8
  isplitl [HO]; · iexact HO
  iintro ⟨C1, H8, HO⟩
  dsimp only
  rw [wp_bind]
  iapply (part9 I K c _)
  isplitr; · iexact HR
  isplitr; · iexact Hlev
  isplitl [H8]; · iexact H8
  isplitl [H9]; · iexact H9
  isplitl [H10]; · iexact H10
  isplitl [H11]; · iexact H11
  isplitl [HO]; · iexact HO
  iintro ⟨C2, HO⟩
  dsimp only
  rw [wp_bind]
  iapply (part10 I K c _)
  isplitr; · iexact HR
  isplitr; · iexact Hlev
  isplitl [H12]; · iexact H12
  isplitl [H13]; · iexact H13
  isplitl [H14]; · iexact H14
  isplitl [H15]; · iexact H15
  isplitl [HO]; · iexact HO
  iintro ⟨H12, H13, H14, H15, HO⟩
  rw [wp_bind]
  iapply (part11 I c f _)
  isplitl [H12]; · iexact H12
  isplitl [H13]; · iexact H13
  isplitl [H14]; · iexact H14
  isplitl [H15]; · iexact H15
  isplitl [Hm]; · iexact Hm
  iintro ⟨C3, Hm⟩
  ihave Hm := (my_split I c) $$ Hm
  icases Hm with ⟨Hm, M0, M1, M2⟩
  rw [wp_bind]
  iapply (part12 I K c _ _ _)
  isplitr; · iexact HR
  isplitl [S0]; · iexact S0
  isplitl [B0]; · iexact B0
  isplitl [M0]; · iexact M0
  isplitl [S1]; · iexact S1
  isplitl [B1]; · iexact B1
  isplitl [M1]; · iexact M1
  isplitl [HO]; · iexact HO
  iintro ⟨S0, S1, HO⟩
  dsimp only
  rw [wp_bind]
  iapply (part13 I K c _ _ _ _ _)
  isplitr; · iexact HR
  isplitl [S2]; · iexact S2
  isplitl [B2]; · iexact B2
  isplitl [M2]; · iexact M2
  isplitl [S0]; · iexact S0
  isplitl [S1]; · iexact S1
  isplitl [R0]; · iexact R0
  isplitl [HO]; · iexact HO
  iintro ⟨S2, S0, S1, R0, HO⟩
  rw [wp_bind]
  iapply (part14 I K c _ _ _)
  isplitr; · iexact HR
  isplitl [R0]; · iexact R0
  isplitl [R1]; · iexact R1
  isplitl [R2]; · iexact R2
  isplitl [S2]; · iexact S2
  isplitl [Hm]; · iexact Hm
  isplitl [HO]; · iexact HO
  iintro ⟨A0, A1, A2, Hs, S2, Hm, HO⟩
  dsimp only
  simp only [Prog.lift, Prog.bind_op, Prog.bind_ret, Prog.pure_eq_ret]
  iapply (load_slot I c 2 1) $$ [Hs]
  · iexact Hs
  iintro Hs
  iapply (load_my I c 2) $$ [Hm]
  · iexact Hm
  iintro Hm
  iapply (load_slot I c 0 2) $$ [Hs]
  · iexact Hs
  iintro Hs
  iapply (load_slot I c 1 2) $$ [Hs]
  · iexact Hs
  iintro Hs
  iapply (load_slot I c 2 2) $$ [Hs]
  · iexact Hs
  iintro Hs
  rw [wp_ret]; imodintro
  iapply Hk
  unfold bodyMid
  isplitl [C0]; · iexact C0
  isplitl [C1]; · iexact C1
  isplitl [C2]; · iexact C2
  isplitl [C3]; · iexact C3
  isplitl [S0]; · iexact S0
  isplitl [S1]; · iexact S1
  isplitl [S2]; · iexact S2
  isplitl [A0]; · iexact A0
  isplitl [A1]; · iexact A1
  isplitl [A2]; · iexact A2
  isplitl [Hs]; · iexact Hs
  isplitl [Hm]; · iexact Hm
  isplitl [Hat]; · iexact Hat
  isplitl [Hx]; · iexact Hx
  isplitl [Hl]; · iexact Hl
  iexact HO

/-- The landed copies' cells and payloads, regrouped over the sixteen copies. -/
theorem weights_done : iprop(cDone I c 0 ∗ cDone I c 1 ∗ cDone I c 2 ∗ cDone I c 3)
    ⊢ iprop((bigSep Finset.univ fun k : Fin 16 => atPos ER (ownCell c (wIx k)) (0 + 1) ∅ 0) ∗ wbufAll c (wbuf c (I.w c))
        ∗ bigSep Finset.univ fun k : Fin 16 => srcPts c k (I.w c)) := by
  have e : iprop(cDone I c 0 ∗ cDone I c 1 ∗ cDone I c 2 ∗ cDone I c 3)
      ⊢ bigSep Finset.univ fun k : Fin 16 => iprop(atPos ER (ownCell c (wIx k)) (0 + 1) ∅ 0 ∗ piecePts c k (wbuf c (I.w c)) ∗ srcPts c k (I.w c)) := by
    rw [bigSep_16]
    unfold cDone wDone wPay
    iintro ⟨⟨A0, A1, A2, A3⟩, ⟨A4, A5, A6, A7⟩, ⟨A8, A9, A10, A11⟩, ⟨A12, A13, A14, A15⟩⟩
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    isplitl [A13]; · iexact A13
    isplitl [A14]; · iexact A14
    iexact A15
  refine e.trans ?_
  rw [bigSep_sep', bigSep_sep']
  have h : (bigSep Finset.univ fun k : Fin 16 => piecePts c k (wbuf c (I.w c))) = wbufAll c (wbuf c (I.w c)) := by
    unfold wbufAll piecePts
    exact (Ring.pointsTo_sub_blocks (ℓ := wbufM.view.loc (c : Thread nD τ)) pieceSet (fun j j' h => piece_disjoint j j' h) Finset.univ piece_cover _).symm
  rw [h]

/-- CLOSING the cells of a device, all at round 1: their counters are zero. -/
theorem close_own : iprop(recs I K ∗ bigSep Finset.univ fun j : Fin 22 => atPos ER (ownCell c j) (0 + 1) ∅ 0)
    ⊢ (|={Set.univ}=> bigSep Finset.univ fun j : Fin 22 => semVal (ownCell c j) 0 : sProp 𝕄) := by
  refine BI.Entails.trans ?_ (bigSep_fupd Finset.univ _)
  have h : recs I K ⊢ bigSep Finset.univ fun j : Fin 22 => cellInv ER (Rd I) (K (ownCell c j)) (ownCell c j) :=
    bigSep_intro_persistent fun j _ => recs_own I K c j
  refine (sep_mono_left h).trans ?_
  rw [← bigSep_sep']
  exact bigSep_mono fun j _ => close I (K (ownCell c j)) (ownCell c j)

/-- After the last wait and the output's store, everything is handed back. -/
theorem finish : iprop(recs I K ∗ bodyMid I c ∗ outPts c (outRow I c)) ⊢ (|={Set.univ}=> bodyPost I c : sProp 𝕄) := by
  unfold bodyMid bodyPost
  iintro ⟨#HR, ⟨C0, C1, C2, C3, S0, S1, S2, A0, A1, A2, Hs, Hm, Hat, Hx, Hl, HO⟩, Ho⟩
  ihave HW := (weights_done I c) $$ [C0 C1 C2 C3]
  · isplitl [C0]; · iexact C0
    isplitl [C1]; · iexact C1
    isplitl [C2]; · iexact C2
    iexact C3
  icases HW with ⟨HA, Hw, Hsrc⟩
  unfold sDone sPay rAt
  icases S0 with ⟨S0, M0⟩
  icases S1 with ⟨S1, M1⟩
  icases S2 with ⟨S2, M2⟩
  ihave Hm := (my_join I c) $$ [Hm M0 M1 M2]
  · isplitl [Hm]; · iexact Hm
    isplitl [M0]; · iexact M0
    isplitl [M1]; · iexact M1
    iexact M2
  imod (close_own I K c) $$ [HA S0 S1 S2 A0 A1 A2] with Hz
  · isplitr; · iexact HR
    rw [bigSep_22, bigSep_3, bigSep_3]
    isplitl [HA]; · iexact HA
    isplitl [S0 S1 S2]
    · isplitl [S0]; · iexact S0
      isplitl [S1]; · iexact S1
      iexact S2
    isplitl [A0]; · iexact A0
    isplitl [A1]; · iexact A1
    iexact A2
  imod (close I (K (barCell c)) (barCell c)) $$ [Hat] with Hb
  · isplitr; · iapply (recs_bar I K c); iexact HR
    iexact Hat
  imodintro
  isplitl [Hb]; · iexact Hb
  isplitl [Hz]; · iexact Hz
  isplitl [Hsrc]; · iexact Hsrc
  isplitl [Hw]; · iexact Hw
  isplitl [Hs]; · iexact Hs
  isplitl [Hm]; · iexact Hm
  isplitl [Hx]; · iexact Hx
  isplitl [Hl]; · iexact Hl
  isplitl [Ho]; · iexact Ho
  iexact HO

/-- THE BODY on device `c`. -/
theorem body (Q : PUnit → sProp 𝕄) :
    iprop(recs I K ∗ levAts L lv ∗ bodyPre I c ∗ (bodyPost I c -∗ Q ⟨⟩)) ⊢ wpc c (atArgs (cc0_body (F := F))) Q := by
  rw [cc0_body_eq_skeleton]; unfold cc0_body_skel bodyPre
  dsimp only [atArgs, wpc]
  iintro ⟨#HR, #Hlev, ⟨HW, HS, HV, HG, Hat, Hcr, Hx, Hl, ⟨%fo, Ho⟩, Hm, HO⟩, Hk⟩
  rw [wp_bind]
  iapply (part15 I K c _)
  isplitr; · iexact HR
  isplitr; · iexact Hlev
  isplitl [HW]; · iexact HW
  isplitl [HS]; · iexact HS
  isplitl [HV]; · iexact HV
  isplitl [HG]; · iexact HG
  isplitl [Hat]; · iexact Hat
  isplitl [Hcr]; · iexact Hcr
  isplitl [Hx]; · iexact Hx
  isplitl [Hl]; · iexact Hl
  isplitl [Hm]; · iexact Hm
  isplitl [HO]; · iexact HO
  iintro Hmid
  dsimp only
  simp only [Prog.lift, Prog.bind_op, Prog.bind_ret, Prog.pure_eq_ret]
  iapply (load_out c) $$ [Ho]
  · iexact Ho
  iintro Ho
  iapply (store_out c) $$ [Ho]
  · iexact Ho
  iintro Ho
  rw [wp_ret]
  imod (finish I K c) $$ [Hmid Ho] with HP
  · isplitr; · iexact HR
    isplitl [Hmid]; · iexact Hmid
    unfold outRow
    iexact Ho
  imodintro
  iapply Hk
  iexact HP

end Cert.KernelIdeal.Xent

end
-- ==== Proof.Xent.Region.lean ====
/- The kernel's region: what its invariant holds before and after the body, and that the body keeps it.

   A device enters with the records of all cells, the right to open its own 22 cells, the tokens of the payments it
   makes, the credit its peers' payments will bring, its scratch buffers, and its block of the weight. It leaves with every
   counter at zero and the buffers back. -/
module

public import proofs.«01_k».proof.Proof.Xent.Body3
public import proofs.«01_k».proof.Proof.Gen.KernelIdeal.Launch
public import Idealize.ShloMosaic.Lib.Pipeline.RegionTalk
public import Idealize.ShloMosaic.Lib.Pipeline.Value

@[expose] public section

noncomputable section

namespace Cert.KernelIdeal.Xent

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (c : Dev nD)

/-! ## Contents -/

/-- A device's buffers at launch, and after the labels are reshaped into a column. -/
abbrev V₀ (c : Dev nD) : Valuation τ sig (Elt F) := fun b => m ((c : Dev nD), b)
abbrev V₁ (c : Dev nD) : Valuation τ sig (Elt F) := StableHlo.after hostOps0 (V₀ m c)

/-- The inputs as the region finds them. -/
def ins : Ins F where
  x c := V₁ m c main_arg0
  w c := V₁ m c main_arg1
  lab c := V₁ m c main_v1

/-- The buffers after the region: the output row written. -/
abbrev V₂ (c : Dev nD) : Valuation τ sig (Elt F) := Function.update (V₁ m c) (Proc.devRef .tc main_v2) (outRow (ins m) c)

/-! ## Splitting the buffers the body addresses itself -/

/-- The weight block, whole; what is left of it beside the sources of the sixteen copies. -/
def wAll (w : S1024x8192.Idx → Elt F .f32) : sProp 𝕄 := wM.view.loc (c : Thread nD τ) ↦[Finset.univ]{fullShare} w
def wLeft (w : S1024x8192.Idx → Elt F .f32) : sProp 𝕄 :=
  iprop((wM.view.loc (c : Thread nD τ) ↦[Finset.univ]{Transfers.shareDrop fullShare 16} w)
    ∗ bigSep Finset.univ fun k : Fin 16 =>
        (wM.view.loc (c : Thread nD τ) ↦[(Finset.univ : Finset S1024x8192.Idx) \ (srcM c k).view.set]{Transfers.shareTokN fullShare k.val} w))

theorem w_tok (w : S1024x8192.Idx → Elt F .f32) (k : Fin 16) :
    (wM.view.loc (c : Thread nD τ) ↦[Finset.univ]{Transfers.shareTokN fullShare k.val} w : sProp 𝕄)
      ⊣⊢ iprop(srcPts c k w ∗ (wM.view.loc (c : Thread nD τ) ↦[(Finset.univ : Finset S1024x8192.Idx) \ (srcM c k).view.set]{Transfers.shareTokN fullShare k.val} w)) :=
  pointsTo_split_subset (ℓ := wM.view.loc (c : Thread nD τ)) (Finset.subset_univ (srcM c k).view.set)

theorem w_split (w : S1024x8192.Idx → Elt F .f32) :
    wAll c w ⊢ iprop(wLeft c w ∗ bigSep Finset.univ fun k : Fin 16 => srcPts c k w) := by
  unfold wAll wLeft
  refine (Transfers.pointsTo_toks_split fullShare 16).trans ?_
  refine (sep_mono_right (bigSep_mono fun k _ => (w_tok c w k).1)).trans ?_
  rw [bigSep_sep']
  iintro ⟨H, Hs, Hr⟩
  isplitl [H Hr]
  · isplitl [H]; · iexact H
    iexact Hr
  iexact Hs

theorem w_join (w : S1024x8192.Idx → Elt F .f32) :
    iprop(wLeft c w ∗ bigSep Finset.univ fun k : Fin 16 => srcPts c k w) ⊢ wAll c w := by
  unfold wAll wLeft
  have h : iprop((bigSep Finset.univ fun k : Fin 16 => srcPts c k w)
        ∗ bigSep Finset.univ fun k : Fin 16 => (wM.view.loc (c : Thread nD τ) ↦[(Finset.univ : Finset S1024x8192.Idx) \ (srcM c k).view.set]{Transfers.shareTokN fullShare k.val} w))
      ⊢ (bigSep Finset.univ fun k : Fin 16 => (wM.view.loc (c : Thread nD τ) ↦[Finset.univ]{Transfers.shareTok fullShare 16 k} w) : sProp 𝕄) := by
    rw [← bigSep_sep']
    exact bigSep_mono fun k _ => (w_tok c w k).2
  have hj : iprop((wM.view.loc (c : Thread nD τ) ↦[Finset.univ]{Transfers.shareDrop fullShare 16} w)
        ∗ bigSep Finset.univ fun k : Fin 16 => (wM.view.loc (c : Thread nD τ) ↦[Finset.univ]{Transfers.shareTok fullShare 16 k} w))
      ⊢ (wM.view.loc (c : Thread nD τ) ↦[Finset.univ]{fullShare} w : sProp 𝕄) := Transfers.pointsTo_toks_join fullShare 16
  iintro ⟨⟨H, Hr⟩, Hs⟩
  iapply hj
  isplitl [H]; · iexact H
  iapply h
  isplitl [Hs]; · iexact Hs
  iexact Hr

theorem piece_some (k : Fin 16) (f : S4x1024x1024.Idx → Elt F .f32) : piecePts c k f ⊢ (iprop(∃ f, piecePts c k f) : sProp 𝕄) := by
  iintro H
  iexists f
  iexact H
theorem slot_some (k : Fin 3) (f : S3x3x512.Idx → Elt F .f32) : slotPts c k f ⊢ (iprop(∃ f, slotPts c k f) : sProp 𝕄) := by
  iintro H
  iexists f
  iexact H

theorem pieces_split (f : S4x1024x1024.Idx → Elt F .f32) :
    wbufAll c f ⊢ (bigSep Finset.univ fun k : Fin 16 => iprop(∃ f, piecePts c k f) : sProp 𝕄) := by
  unfold wbufAll
  refine (Entails.of_eq (Ring.pointsTo_sub_blocks (ℓ := wbufM.view.loc (c : Thread nD τ)) pieceSet (fun j j' h => piece_disjoint j j' h) Finset.univ piece_cover f)).trans ?_
  exact bigSep_mono fun k _ => piece_some c k f

theorem slots_split (f : S3x3x512.Idx → Elt F .f32) :
    slotsAll c f ⊢ (bigSep Finset.univ fun k : Fin 3 => iprop(∃ f, slotPts c k f) : sProp 𝕄) := by
  unfold slotsAll
  refine (Entails.of_eq (Ring.pointsTo_sub_blocks (ℓ := slotsM.view.loc (c : Thread nD τ)) slotSet (fun j j' h => slot_disjoint j j' h) Finset.univ slot_cover f)).trans ?_
  exact bigSep_mono fun k _ => slot_some c k f

/-! ## What the region is entered with -/

variable (I : Ins F)

/-- The tokens of the payments device `c` makes: its weight copies, its sends, their landings, its barrier units. -/
def toks : sProp 𝕄 :=
  iprop((bigSep Finset.univ fun k : Fin 16 => dutyTok ER (ownCell c (wIx k)) 0 (0 : Fin 3))
    ∗ (bigSep Finset.univ fun k : Fin 3 => dutyTok ER (ownCell c (sIx k)) 0 (0 : Fin 3))
    ∗ (bigSep Finset.univ fun k : Fin 3 => dutyTok ER (ownCell (peer k c) (rIx k)) 0 (0 : Fin 3))
    ∗ (bigSep Finset.univ fun k : Fin 3 => dutyTok ER (barCell (peer k c)) 0 k))
/-- The credit of its peers' payments. -/
def creds : sProp 𝕄 :=
  iprop(cred (tallyAt (barCell c) () 3) ∗ bigSep Finset.univ fun k : Fin 3 => cred (tallyAt (ownCell c (rIx k)) () Ns))

/-- Kept from launch; once the device's own cells are open. -/
def Tk : sProp 𝕄 :=
  iprop(∃ K, recs I K ∗ atPos ER (barCell c) 0 ∅ 0 ∗ (bigSep Finset.univ fun j : Fin 22 => openTok ER (ownCell c j)) ∗ toks c ∗ creds c)
def Xk : sProp 𝕄 :=
  iprop(∃ K, recs I K ∗ atPos ER (barCell c) 0 ∅ 0
    ∗ (bigSep Finset.univ fun j : Fin 22 => iprop(atPos ER (ownCell c j) 0 ∅ 0 ∗ reached ER (ownCell c j) 0)) ∗ toks c ∗ creds c ∗ levAts L lv)

/-- The scratch buffers. -/
def scratch : sProp 𝕄 := iprop((∃ f, wbufAll c f) ∗ (∃ f, myAll c f) ∗ ∃ f, slotsAll c f)

/-- The region's invariant at its entry and at its exit. -/
def Φin : sProp 𝕄 := iprop(Xk c I ∗ scratch c ∗ wAll c (I.w c) ∗ ∃ r, prngReg c r)
def Φout : sProp 𝕄 :=
  iprop(semVal (barCell c) 0 ∗ (bigSep Finset.univ fun j : Fin 22 => semVal (ownCell c j) 0) ∗ scratch c ∗ wAll c (I.w c) ∗ ∃ r, prngReg c r)

abbrev osem : Fin 22 → SemLoc sig := fun j => .dma (ownS j)
theorem ownSemFacts : Pipeline.OwnSemFacts spec0 osem := by decide

/-- OPENING a device's own cells. -/
theorem open_own (K : GSem nD τ sig → ℕ) :
    iprop(recs I K ∗ (bigSep Finset.univ fun j : Fin 22 => openTok ER (ownCell c j)) ∗ bigSep Finset.univ fun j : Fin 22 => semVal (ownCell c j) 0)
      ⊢ (|={Set.univ}=> bigSep Finset.univ fun j : Fin 22 => iprop(atPos ER (ownCell c j) 0 ∅ 0 ∗ reached ER (ownCell c j) 0) : sProp 𝕄) := by
  refine BI.Entails.trans ?_ (bigSep_fupd Finset.univ _)
  have h : recs I K ⊢ bigSep Finset.univ fun j : Fin 22 => cellInv ER (Rd I) (K (ownCell c j)) (ownCell c j) :=
    bigSep_intro_persistent fun j _ => recs_own I K c j
  refine (sep_mono_left h).trans ?_
  rw [← bigSep_sep', ← bigSep_sep']
  exact bigSep_mono fun j _ => Rounds.cell_open ER (Rd I) (g := ownCell c j) (Set.mem_univ (K (ownCell c j)))

theorem ownSems0_eq : (Pipeline.ownSems0 osem c : sProp 𝕄) = bigSep Finset.univ fun j : Fin 22 => semVal (ownCell c j) 0 := rfl

theorem hopen : iprop(Tk c I ∗ Pipeline.ownSems0 osem c ∗ levAts L lv) ⊢ (|={Set.univ}=> Xk c I : sProp 𝕄) := by
  rw [ownSems0_eq]
  unfold Tk Xk
  iintro ⟨⟨%K, #HR, Hat, Hop, Ht, Hc⟩, Hs, #Hlev⟩
  imod (open_own c I K) $$ [Hop Hs] with HO
  · isplitr; · iexact HR
    isplitl [Hop]; · iexact Hop
    iexact Hs
  imodintro
  iexists K
  isplitr; · iexact HR
  isplitl [Hat]; · iexact Hat
  isplitl [HO]; · iexact HO
  isplitl [Ht]; · iexact Ht
  isplitl [Hc]; · iexact Hc
  iexact Hlev

/-! ## Into the body and out of it -/

theorem wIdles : iprop((bigSep Finset.univ fun k : Fin 16 => dutyTok ER (ownCell c (wIx k)) 0 (0 : Fin 3))
      ∗ (bigSep Finset.univ fun k : Fin 16 => iprop(atPos ER (ownCell c (wIx k)) 0 ∅ 0 ∗ reached ER (ownCell c (wIx k)) 0))
      ∗ (bigSep Finset.univ fun k : Fin 16 => srcPts c k (I.w c)) ∗ bigSep Finset.univ fun k : Fin 16 => iprop(∃ f, piecePts c k f))
    ⊢ (bigSep Finset.univ fun k : Fin 16 => wIdle I c k : sProp 𝕄) := by
  unfold wIdle
  rw [bigSep_sep', bigSep_sep', bigSep_sep', bigSep_sep', bigSep_sep']
  iintro ⟨Ht, ⟨Ha, Hr⟩, Hs, Hp⟩
  isplitl [Ht]; · iexact Ht
  isplitl [Ha]; · iexact Ha
  isplitl [Hr]; · iexact Hr
  isplitl [Hs]; · iexact Hs
  iexact Hp

theorem sIdles : iprop((bigSep Finset.univ fun k : Fin 3 => dutyTok ER (ownCell c (sIx k)) 0 (0 : Fin 3))
      ∗ (bigSep Finset.univ fun k : Fin 3 => iprop(atPos ER (ownCell c (sIx k)) 0 ∅ 0 ∗ reached ER (ownCell c (sIx k)) 0))
      ∗ bigSep Finset.univ fun k : Fin 3 => dutyTok ER (ownCell (peer k c) (rIx k)) 0 (0 : Fin 3))
    ⊢ (bigSep Finset.univ fun k : Fin 3 => sIdle c k : sProp 𝕄) := by
  unfold sIdle
  rw [bigSep_sep', bigSep_sep', bigSep_sep', bigSep_sep']
  iintro ⟨Ht, ⟨Ha, Hr⟩, Hp⟩
  isplitl [Ht]; · iexact Ht
  isplitl [Ha]; · iexact Ha
  isplitl [Hr]; · iexact Hr
  iexact Hp

theorem rSplit : iprop((bigSep Finset.univ fun k : Fin 3 => iprop(atPos ER (ownCell c (rIx k)) 0 ∅ 0 ∗ reached ER (ownCell c (rIx k)) 0))
      ∗ (bigSep Finset.univ fun k : Fin 3 => cred (tallyAt (ownCell c (rIx k)) () Ns))
      ∗ (bigSep Finset.univ fun k : Fin 3 => dutyTok ER (barCell (peer k c)) 0 k)
      ∗ bigSep Finset.univ fun k : Fin 3 => iprop(∃ f, slotPts c k f))
    ⊢ (iprop((bigSep Finset.univ fun k : Fin 3 => rWait c k) ∗ bigSep Finset.univ fun k : Fin 3 => sigTok c k) : sProp 𝕄) := by
  unfold rWait sigTok
  rw [bigSep_sep', bigSep_sep', bigSep_sep', bigSep_sep']
  iintro ⟨⟨Ha, Hr⟩, Hc, Ht, Hs⟩
  isplitl [Ha Hc]
  · isplitl [Hc]; · iexact Hc
    iexact Ha
  isplitl [Ht]; · iexact Ht
  isplitl [Hr]; · iexact Hr
  iexact Hs

theorem enter : iprop(Φin c I ∗ xPts c (I.x c) ∗ labPts c (I.lab c) ∗ (∃ f, outPts c f) ∗ owesE c (O₀ c))
    ⊢ (iprop(∃ K, recs I K ∗ levAts L lv ∗ bodyPre I c ∗ wLeft c (I.w c) ∗ ∃ r, prngReg c r) : sProp 𝕄) := by
  unfold Φin Xk scratch toks creds bodyPre
  rw [bigSep_22]
  iintro ⟨⟨⟨%K, #HR, Hat, ⟨HaW, HaS, HaR⟩, ⟨HtW, HtS, HtR, HtB⟩, ⟨HcB, HcR⟩, #Hlev⟩, ⟨⟨%f0, Hw0⟩, Hm, ⟨%f2, Hs2⟩⟩, HwA, Hp⟩, Hx, Hl, Ho, HO⟩
  iexists K
  ihave Hpc := (pieces_split c f0) $$ Hw0
  ihave Hsl := (slots_split c f2) $$ Hs2
  ihave HwS := (w_split c (I.w c)) $$ HwA
  icases HwS with ⟨HwL, Hsrc⟩
  ihave HRS := (rSplit c) $$ [HaR HcR HtB Hsl]
  · isplitl [HaR]; · iexact HaR
    isplitl [HcR]; · iexact HcR
    isplitl [HtB]; · iexact HtB
    iexact Hsl
  icases HRS with ⟨HrW, HsT⟩
  isplitr; · iexact HR
  isplitr; · iexact Hlev
  isplitr [HwL Hp]
  · isplitl [HtW HaW Hsrc Hpc]
    · iapply (wIdles c I)
      isplitl [HtW]; · iexact HtW
      isplitl [HaW]; · iexact HaW
      isplitl [Hsrc]; · iexact Hsrc
      iexact Hpc
    isplitl [HtS HaS HtR]
    · iapply (sIdles c)
      isplitl [HtS]; · iexact HtS
      isplitl [HaS]; · iexact HaS
      iexact HtR
    isplitl [HrW]; · iexact HrW
    isplitl [HsT]; · iexact HsT
    isplitl [Hat]; · iexact Hat
    isplitl [HcB]; · iexact HcB
    isplitl [Hx]; · iexact Hx
    isplitl [Hl]; · iexact Hl
    isplitl [Ho]; · iexact Ho
    isplitl [Hm]; · iexact Hm
    iexact HO
  isplitl [HwL]; · iexact HwL
  iexact Hp

theorem leave : iprop(bodyPost I c ∗ wLeft c (I.w c) ∗ ∃ r, prngReg c r)
    ⊢ (iprop(Φout c I ∗ xPts c (I.x c) ∗ labPts c (I.lab c) ∗ outPts c (outRow I c) ∗ owesE c 0) : sProp 𝕄) := by
  unfold bodyPost Φout scratch
  iintro ⟨⟨Hb, Hown, Hsrc, Hw0, Hs2, Hm, Hx, Hl, Ho, HO⟩, HwL, Hp⟩
  ihave Hw := (w_join c (I.w c)) $$ [HwL Hsrc]
  · isplitl [HwL]; · iexact HwL
    iexact Hsrc
  isplitl [Hb Hown Hw0 Hs2 Hm Hw Hp]
  · isplitl [Hb]; · iexact Hb
    isplitl [Hown]; · iexact Hown
    isplitl [Hw0 Hs2 Hm]
    · isplitl [Hw0]; · iexists _; iexact Hw0
      isplitl [Hm]; · iexists _; iexact Hm
      iexists _; iexact Hs2
    isplitl [Hw]; · iexact Hw
    iexact Hp
  isplitl [Hx]; · iexact Hx
  isplitl [Hl]; · iexact Hl
  isplitl [Ho]; · iexact Ho
  iexact HO

/-! ## The proof data of the windows, and the body's obligation -/

def dats (_ : Fin 1) (c : Dev nD) : Dat τ (Elt F) Unit ℕ UU ℕ cfg0 c where
  A w := V₁ m c (Proc.devRef .tc (Pipeline.arrRef spec0 w))
  after w _ := match w with
    | ⟨0, _⟩ => (ins m).x c
    | ⟨1, _⟩ => (ins m).lab c
    | ⟨2, _⟩ => outRow (ins m) c
  Φ t := match t with
    | ⟨0, _⟩ => Φin c (ins m)
    | ⟨_ + 1, _⟩ => Φout c (ins m)
  q _ := fullShare
  owed t := match t with
    | ⟨0, _⟩ => O₀ c
    | ⟨_ + 1, _⟩ => 0

theorem owesAt_of {t : Fin (cfg0.N + 1)} {O : CellTallies nD τ sig Unit} (h : (dats (F := F) m 0 c).owed t = O) :
    owesE c O ⊢ ((dats (F := F) m 0 c).owesAt () t : sProp 𝕄) := by
  unfold owesE Dat.owesAt Pipeline.owesWithin Dat.bound
  rw [h]
  iintro ⟨%W, HO⟩
  iexists W
  isplitr; · ipureintro; exact fun _ _ => Or.inl trivial
  iexact HO
theorem of_owesAt {t : Fin (cfg0.N + 1)} {O : CellTallies nD τ sig Unit} (h : (dats (F := F) m 0 c).owed t = O) :
    ((dats (F := F) m 0 c).owesAt () t : sProp 𝕄) ⊢ owesE c O := by
  unfold owesE Dat.owesAt Pipeline.owesWithin
  rw [h]
  iintro ⟨%W, -, HO⟩
  iexists W
  iexact HO

theorem owns_whole (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A window's one block is its whole array. -/
theorem read_blk_x (f : main_arg0.ty.Contents (Elt F)) : (win0_0.blk t0_0).view.read (Elt F) f = f := by
  funext i
  refine congrArg f (funext fun a => Fin.ext ?_)
  fin_cases a <;> exact Nat.zero_add _ |>.trans (Nat.one_mul _)
theorem read_blk_lab (f : main_v1.ty.Contents (Elt F)) : (win0_1.blk t0_0).view.read (Elt F) f = f := by
  funext i
  refine congrArg f (funext fun a => Fin.ext ?_)
  fin_cases a <;> exact Nat.zero_add _ |>.trans (Nat.one_mul _)
theorem read_blk_out (f : main_v2.ty.Contents (Elt F)) : (win0_2.blk t0_0).view.read (Elt F) f = f := by
  funext i
  refine congrArg f (funext fun a => Fin.ext ?_)
  fin_cases a <;> exact Nat.zero_add _ |>.trans (Nat.one_mul _)

theorem before_x (d) : (dats (F := F) m 0 c).before (0 : Fin 3) t0_0 d = (ins m).x c := by
  unfold Dat.before; rw [if_pos (by rfl)]; exact read_blk_x (V₁ m c main_arg0)
theorem before_lab (d) : (dats (F := F) m 0 c).before (1 : Fin 3) t0_0 d = (ins m).lab c := by
  unfold Dat.before; rw [if_pos (by rfl)]; exact read_blk_lab (V₁ m c main_v1)

theorem final_out : (dats (F := F) m 0 c).arrAt (2 : Fin 3) cfg0.N = outRow (ins m) c :=
  (dats m 0 c).arrAt_eq_of_cover (2 : Fin 3) (outRow (ins m) c)
    (fun t _ => by obtain rfl := fin_N0 t; exact (read_blk_out (outRow (ins m) c)).symm)
    (fun i => ⟨t0_0, by rfl, by
      show i ∈ ((View.whole main_v2).slice (win0_2.rect t0_0)).set
      rw [View.set_slice_whole, Rect.mem_set_unit]
      intro a
      fin_cases a
      · exact ⟨Nat.zero_le _, (i 0).isLt⟩
      · exact ⟨Nat.zero_le _, (i 1).isLt⟩⟩)

theorem xPts_eq (f : S512x1024.Idx → Elt F .f32) : (xPts c f : sProp 𝕄) = (((c : Thread nD τ).loc cc0_stg0_0) ↦{fullShare} f) := rfl
theorem labPts_eq (f : S512x1.Idx → Elt F .i32) : (labPts c f : sProp 𝕄) = (((c : Thread nD τ).loc cc0_stg1_0) ↦{fullShare} f) := rfl
theorem outPts_eq (f : S1x512.Idx → Elt F .f32) : (outPts c f : sProp 𝕄) = (((c : Thread nD τ).loc cc0_stg2_0) ↦{fullShare} f) := rfl

abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-- What the window library holds around the body: the invariant, the debt, the three staging buffers. -/
def atEntry : sProp 𝕄 :=
  iprop(Φin c (ins m) ∗ (dats m 0 c).owesAt () (t0_0 : Fin cfg0.N).castSucc
    ∗ (∃ d, stg c cc0_stg0_0 ((dats m 0 c).before (0 : Fin 3) t0_0 d))
    ∗ (∃ d, stg c cc0_stg1_0 ((dats m 0 c).before (1 : Fin 3) t0_0 d))
    ∗ ∃ d, stg c cc0_stg2_0 ((dats m 0 c).before (2 : Fin 3) t0_0 d))
def atExit : sProp 𝕄 :=
  iprop(Φout c (ins m) ∗ (dats m 0 c).owesAt () (t0_0 : Fin cfg0.N).succ
    ∗ stg c cc0_stg0_0 ((ins m).x c) ∗ stg c cc0_stg1_0 ((ins m).lab c) ∗ stg c cc0_stg2_0 (outRow (ins m) c))

theorem body_run : atEntry m c ⊢ wpc c (atArgs (cc0_body (F := F))) fun _ => atExit m c := by
  unfold atEntry
  iintro ⟨HΦ, Ho, ⟨%d0, %g0, %h0, Hx⟩, ⟨%d1, %g1, %h1, Hl⟩, ⟨%d2, %g2, -, Hout⟩⟩
  rw [before_x] at h0
  rw [before_lab] at h1
  subst h0 h1
  ihave HO := (of_owesAt m c (t := (t0_0 : Fin cfg0.N).castSucc) (O := O₀ c) rfl) $$ Ho
  ihave HE := (enter c (ins m)) $$ [HΦ HO Hx Hl Hout]
  · isplitl [HΦ]; · iexact HΦ
    isplitl [Hx]; · rw [xPts_eq]; iexact Hx
    isplitl [Hl]; · rw [labPts_eq]; iexact Hl
    isplitl [Hout]; · iexists g2; rw [outPts_eq]; iexact Hout
    iexact HO
  icases HE with ⟨%K, #HR, #Hlev, HP, Hk⟩
  iapply (body (ins m) K c)
  isplitr; · iexact HR
  isplitr; · iexact Hlev
  isplitl [HP]; · iexact HP
  iintro HP
  ihave HL := (leave c (ins m)) $$ [HP Hk]
  · isplitl [HP]; · iexact HP
    iexact Hk
  unfold atExit
  icases HL with ⟨HΦ, Hx, Hl, Ho, HO⟩
  isplitl [HΦ]; · iexact HΦ
  isplitl [HO]; · iapply (owesAt_of m c (t := (t0_0 : Fin cfg0.N).succ) (O := 0) rfl); iexact HO
  isplitl [Hx]; · iexists _; isplitr; · ipureintro; rfl
                  iapply (Entails.of_eq (xPts_eq c _)) $$ Hx
  isplitl [Hl]; · iexists _; isplitr; · ipureintro; rfl
                  iapply (Entails.of_eq (labPts_eq c _)) $$ Hl
  iexists _; isplitr; · ipureintro; rfl
  iapply (Entails.of_eq (outPts_eq c _)) $$ Ho

set_option maxRecDepth 4000 in
theorem body_obligation : BodyObligation (dats (F := F) m 0 c) (defs₀ (F := F)) 𝒱₀ () Set.univ := fun t => by
  rw [fin_N0 t]
  rw [bigSep_W0, bigSep_W0]
  simp only [owns_whole]
  exact body_run m c

end Cert.KernelIdeal.Xent

end
-- ==== Proof.Xent.Launch.lean ====
/- The program's three stretches: the labels reshaped, the kernel's region, the output reshaped. -/
module

public import proofs.«01_k».proof.Proof.Xent.Region

@[expose] public section

noncomputable section

namespace Cert.KernelIdeal.Xent

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (c : Dev nD)

abbrev adm : (p : Fin 1) → (pcfgs (F := F) p).Adm := fun p => (cfgs p).toPCfg_adm
abbrev pdats : (p : Fin 1) → (c : Dev nD) → Pipeline.Dat τ (Elt F) Unit ℕ UU ℕ (Pipeline.pin (pcfgs (F := F)) adm p) c := dats m

/-- A device's unscoped buffers; those that are no window's array; the one of these the body reads. -/
abbrev bufs : Finset (DevRef τ sig) := ucRefs τ sig
abbrev arrs : Finset (DevRef τ sig) := Pipeline.arrRefs (τ := τ) spec0
abbrev rest : Finset (DevRef τ sig) := bufs \ arrs
abbrev wRef : Finset (DevRef τ sig) := {Proc.devRef .tc main_arg1}

theorem arrs_sub : arrs ⊆ bufs := arrRefs_sub_ucRefs _ winFacts0.arr_unscoped
theorem wRef_sub : wRef ⊆ rest := by
  rw [Finset.singleton_subset_iff, Finset.mem_sdiff]
  exact ⟨by decide, by decide⟩

theorem V₂_of_ne (b : DevRef τ sig) (h : b ≠ Proc.devRef .tc main_v2) : V₂ m c b = V₁ m c b := Function.update_of_ne h _ _
theorem V₂_out : V₂ m c (Proc.devRef .tc main_v2) = outRow (ins m) c := Function.update_self _ _ _

theorem held_w (V : Valuation τ sig (Elt F)) :
    (StableHlo.held (c.tc : Thread nD τ) wRef V : sProp 𝕄) = wAll c (V (Proc.devRef .tc main_arg1)) := by
  unfold StableHlo.held
  rw [bigSep_singleton]
  rfl

theorem scopedRest_eq : (Pipeline.scopedRest (Ix := Unit) (Name := ℕ) (U := UU) (Lvl := ℕ) (Val := Elt F) (Pipeline.pin (pcfgs (F := F)) adm 0).spec c : sProp 𝕄) = scratch c :=
  scopedRest0_eq c

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem share_eq (w : Fin cfg0.W) : (dats (F := F) m 0 c).share w = fullShare := by unfold Dat.share; split <;> rfl

theorem rhin : iprop(Pipeline.scopedRest (Pipeline.pin (pcfgs (F := F)) adm 0).spec c ∗ (∃ r, prngReg c r)
      ∗ StableHlo.held (c.tc : Thread nD τ) wRef (V₁ m c) ∗ Xk c (ins m)) ⊢ ((pdats m 0 c).Φ 0 : sProp 𝕄) := by
  rw [show (pdats m 0 c).Φ 0 = Φin c (ins m) from rfl, scopedRest_eq, held_w]
  unfold Φin
  iintro ⟨Hs, Hp, Hw, HX⟩
  isplitl [HX]; · iexact HX
  isplitl [Hs]; · iexact Hs
  isplitl [Hw]; · iexact Hw
  iexact Hp

theorem rhout : ((pdats m 0 c).Φ (Fin.last (Pipeline.pin (pcfgs (F := F)) adm 0).N) : sProp 𝕄)
    ⊢ iprop(Pipeline.scopedRest (Pipeline.pin (pcfgs (F := F)) adm 0).spec c ∗ (∃ r, prngReg c r)
      ∗ StableHlo.held (c.tc : Thread nD τ) wRef (V₂ m c) ∗ Pipeline.ownSems0 osem c ∗ semVal (barCell c) 0) := by
  rw [show (pdats m 0 c).Φ (Fin.last _) = Φout c (ins m) from rfl, scopedRest_eq, held_w, ownSems0_eq, V₂_of_ne m c _ (by decide)]
  unfold Φout
  iintro ⟨Hb, Hown, Hs, Hw, Hp⟩
  isplitl [Hs]; · iexact Hs
  isplitl [Hp]; · iexact Hp
  isplitl [Hw]; · iexact Hw
  isplitl [Hown]; · iexact Hown
  iexact Hb

theorem cut (t : Fin ((Pipeline.pin (pcfgs (F := F)) adm 0).N + 1)) (g : GSem nD τ sig) (i : Unit) (h : 0 < (pdats (F := F) m 0 c).owed t g i) :
    i ∈ L g ∧ (0 : ℕ) < lv g i := by
  obtain ⟨t, ht⟩ := t
  match t with
  | 0 =>
    obtain ⟨k, rfl | rfl⟩ := O₀_pos (c := c) h
    · exact ⟨by rw [L_tc]; exact Finset.mem_singleton_self _, by rw [lv_r]; decide⟩
    · exact ⟨by rw [L_tc]; exact Finset.mem_singleton_self _, Nat.one_pos⟩
  | _ + 1 => exact absurd h (Nat.lt_irrefl 0)

theorem arr_in (w : Fin cfg0.W) : (dats (F := F) m 0 c).arrAt w 0 = V₁ m c (Proc.devRef .tc (Pipeline.arrRef spec0 w)) := rfl
theorem arr_out (w : Fin cfg0.W) : (dats (F := F) m 0 c).arrAt w cfg0.N = V₂ m c (Proc.devRef .tc (Pipeline.arrRef spec0 w)) := by
  fin_cases w
  · exact ((dats m 0 c).arrAt_in (0 : Fin 3) rfl _).trans (V₂_of_ne m c (Proc.devRef .tc main_arg0) (by decide)).symm
  · exact ((dats m 0 c).arrAt_in (1 : Fin 3) rfl _).trans (V₂_of_ne m c (Proc.devRef .tc main_v1) (by decide)).symm
  · exact (final_out m c).trans (V₂_out m c).symm

set_option backward.isDefEq.respectTransparency.types false in
/-- THE REGION. -/
def reg : Pipeline.RegionSeg (pcfgs (F := F)) adm (pdats m) () defs₀ 𝒱₀ L lv 0 :=
  Pipeline.RegionSeg.ofTalk (pcfgs (F := F)) adm (pdats m) () defs₀ 𝒱₀ L lv 0 osem ownSemFacts
    wRef (rest) wRef_sub kit rfl (fun c => (body_obligation m c).loose)
    (fun _ => 0) O₀ (fun _ => (zero_add _).symm) (fun _ => rfl) (fun _ => rfl) (share_eq m)
    (V₁ m) (V₂ m)
    (fun c b hb => V₂_of_ne m c b fun e => by
      subst e
      exact (Finset.mem_sdiff.mp (Finset.mem_sdiff.mp hb).1).2 (by decide))
    (fun c => Tk c (ins m)) (fun c => semVal (barCell c) 0) (fun c => Xk c (ins m)) (fun c => semVal (barCell c) 0)
    (fun c => hopen c (ins m)) (rhin m) (rhout m)
    (fun c => by iintro H; imodintro; iexact H)
    (fun _ => 0)
    ⟨fun c w s => by rw [L_tc]; exact Finset.mem_singleton_self _,
     fun c w s => by fin_cases w <;> fin_cases s <;> exact Nat.le_refl 0,
     fun c t g i h => cut m c t g i h⟩
    (fun _ => iprop(emp))
    (arr_in m) (arr_out m)

/-- What rides beside the buffers: from launch to the region, and after it. -/
def R (c : Dev nD) : sProp 𝕄 := iprop(Tk c (ins m) ∗ (∃ r, prngReg c r) ∗ owesE c (O₀ c))
def R' (c : Dev nD) : sProp 𝕄 := iprop(semVal (barCell c) 0 ∗ owesE c 0)

theorem hsub0 : ∀ op ∈ (hostOps0 : List (HloOp τ sig (Elt F))), op.bufs ⊆ bufs := fun op h => sub_ucRefs op (List.forall_iff_forall_mem.mp hostOps0_sub op h)
theorem hsub1 : ∀ op ∈ (hostOps1 : List (HloOp τ sig (Elt F))), op.bufs ⊆ bufs := fun op h => sub_ucRefs op (List.forall_iff_forall_mem.mp hostOps1_sub op h)
theorem fresh0 : ∀ op ∈ (hostOps0 : List (HloOp τ sig (Elt F))), op.fresh = ∅ := fun op h => by
  rw [List.mem_singleton] at h; subst h; rfl
theorem fresh1 : ∀ op ∈ (hostOps1 : List (HloOp τ sig (Elt F))), op.fresh = ∅ := fun op h => by
  rw [List.mem_singleton] at h; subst h; rfl

def seg0 : Pipeline.HostSeg (Name := ℕ) (U := UU) (pcfgs (F := F)) defs₀ 𝒱₀ L lv :=
  Pipeline.HostSeg.ofOps _ _ _ _ _ bufs hostOps0 hsub0 fresh0 (V₀ m) (R m)
def seg1 : Pipeline.HostSeg (Name := ℕ) (U := UU) (pcfgs (F := F)) defs₀ 𝒱₀ L lv :=
  Pipeline.HostSeg.ofOps _ _ _ _ _ bufs hostOps1 hsub1 fresh1 (V₂ m) R'

theorem reg_pre : iprop(StableHlo.held (c : Thread nD τ) bufs (V₁ m c) ∗ R m c) ⊢ (reg m).pre c := by
  show _ ⊢ iprop(StableHlo.held (c.tc : Thread nD τ) (arrs) (V₁ m c) ∗ (∃ r, prngReg c r)
    ∗ (StableHlo.held (c.tc : Thread nD τ) (rest) (V₁ m c) ∗ emp) ∗ Tk c (ins m) ∗ ∃ Wd, owes (c : Thread nD τ) (0 + O₀ c) Wd)
  rw [zero_add, StableHlo.held_sub_split (c.tc : Thread nD τ) arrs_sub (V₁ m c)]
  unfold R owesE
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

theorem reg_post : (reg m).post c ⊢ iprop(StableHlo.held (c : Thread nD τ) bufs (V₂ m c) ∗ R' c) := by
  show iprop(StableHlo.held (c.tc : Thread nD τ) (arrs) (V₂ m c) ∗ (∃ r, prngReg c r)
    ∗ (StableHlo.held (c.tc : Thread nD τ) (rest) (V₂ m c) ∗ emp) ∗ semVal (barCell c) 0 ∗ ∃ Wd, owes (c : Thread nD τ) (0 : CellTallies nD τ sig Unit) Wd) ⊢ _
  rw [StableHlo.held_sub_split (c.tc : Thread nD τ) arrs_sub (V₂ m c)]
  unfold R' owesE
  iintro ⟨Ha, -, ⟨Hr, -⟩, Hb, HO⟩
  isplitl [Ha Hr]
  · isplitl [Ha]; · iexact Ha
    iexact Hr
  isplitl [Hb]; · iexact Hb
  iexact HO

/-- The program as its stretches. -/
def segs : List (Pipeline.Seg (pcfgs (F := F)) adm (pdats m) () defs₀ 𝒱₀ L lv) := [.host (seg0 m), .region (reg m), .host (seg1 m)]

theorem main_eq : main (F := F) c = Pipeline.Seg.run (segs m) :=
  main_segs adm (pdats m) () 𝒱₀ L lv (seg0 m) (seg1 m) (reg m) rfl rfl c

end Cert.KernelIdeal.Xent

end
-- ==== Proof.Xent.Run.lean ====
/- The run: every cell funded, the tokens dealt to the devices that pay with them, and the three stretches run. -/
module

public import proofs.«01_k».proof.Proof.Xent.Launch

@[expose] public section

noncomputable section

namespace Cert.KernelIdeal.Xent

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-! ## The cells and the tokens -/

def barEmb : Dev nD ↪ GSem nD τ sig := ⟨fun c => barCell c, fun _ _ h => congrArg (fun g : GSem nD τ sig => g.1.1) h⟩

theorem osem_inj : Function.Injective osem := by decide
def ownEmb : Dev nD × Fin 22 ↪ GSem nD τ sig :=
  ⟨fun cj => ownCell cj.1 cj.2, fun _ _ h =>
    Prod.ext (congrArg (fun g : GSem nD τ sig => g.1.1) h) (osem_inj (congrArg Prod.snd h))⟩

abbrev barCells : Finset (GSem nD τ sig) := Finset.univ.map barEmb
abbrev ownCells : Finset (GSem nD τ sig) := Finset.univ.map ownEmb

theorem osem_ne_bar (j : Fin 22) : osem j ≠ .reg barS := by revert j; decide
theorem own_ne_bar (c d : Dev nD) (j : Fin 22) : ownCell c j ≠ barCell d := fun h => osem_ne_bar j (congrArg Prod.snd h)

theorem cells_disjoint : Disjoint barCells ownCells := by
  rw [Finset.disjoint_left]
  rintro g h₁ h₂
  obtain ⟨c, -, rfl⟩ := Finset.mem_map.mp h₁
  obtain ⟨cj, -, h⟩ := Finset.mem_map.mp h₂
  exact own_ne_bar _ _ _ (h : ownCell _ _ = barCell _)

/-- A payment into a device's cells: into one of its own, or one of the three barrier units. -/
abbrev tokSem : Fin 22 ⊕ Fin 3 → SemLoc sig := fun | .inl j => osem j | .inr _ => .reg barS
abbrev tokDuty : Fin 22 ⊕ Fin 3 → Fin 3 := fun | .inl _ => 0 | .inr k => k
theorem tok_inj : Function.Injective fun t : Fin 22 ⊕ Fin 3 => (tokSem t, tokDuty t) := by decide
def tokEmb : Dev nD × (Fin 22 ⊕ Fin 3) ↪ GSem nD τ sig × ℕ × Fin 3 :=
  ⟨fun ct => (((ct.1 : Thread nD τ), tokSem ct.2), 0, tokDuty ct.2), fun _ _ h =>
    Prod.ext (congrArg (fun t : GSem nD τ sig × ℕ × Fin 3 => t.1.1.1) h)
      (tok_inj (Prod.ext (congrArg (fun t : GSem nD τ sig × ℕ × Fin 3 => t.1.2) h) (congrArg (fun t : GSem nD τ sig × ℕ × Fin 3 => t.2.2) h)))⟩
abbrev allToks : Finset (GSem nD τ sig × ℕ × Fin 3) := Finset.univ.map tokEmb

/-- Each device with its peer along one axis, or along both. -/
def across : Dev nD × Fin 3 ≃ Dev nD × Fin 3 where
  toFun p := (peer p.2 p.1, p.2)
  invFun p := (peer p.2 p.1, p.2)
  left_inv p := Prod.ext (peer_peer p.2 p.1) rfl
  right_inv p := Prod.ext (peer_peer p.2 p.1) rfl

theorem around (Φ : Dev nD → Fin 3 → sProp 𝕄) :
    (bigSep Finset.univ fun c : Dev nD => bigSep Finset.univ fun k : Fin 3 => Φ c k)
      = bigSep Finset.univ fun c : Dev nD => bigSep Finset.univ fun k : Fin 3 => Φ (peer k c) k := by
  rw [← bigSep_univ_prod (fun p : Dev nD × Fin 3 => Φ p.1 p.2), bigSep_univ_equiv across, bigSep_univ_prod]
  rfl

/-- The tokens as funded, cell by cell, are the tokens each device pays with. -/
theorem toks_dealt : bigSep allToks (fun x => (dutyTok ER x.1 x.2.1 x.2.2 : sProp 𝕄)) ⊢ bigSep Finset.univ fun c : Dev nD => toks c := by
  rw [bigSep_map, bigSep_univ_prod]
  have e : (fun c : Dev nD => bigSep Finset.univ fun t : Fin 22 ⊕ Fin 3 => (dutyTok ER (tokEmb (c, t)).1 (tokEmb (c, t)).2.1 (tokEmb (c, t)).2.2 : sProp 𝕄))
      = fun c => iprop(((bigSep Finset.univ fun k : Fin 16 => dutyTok ER (ownCell c (wIx k)) 0 (0 : Fin 3))
          ∗ (bigSep Finset.univ fun k : Fin 3 => dutyTok ER (ownCell c (sIx k)) 0 (0 : Fin 3))
          ∗ (bigSep Finset.univ fun k : Fin 3 => dutyTok ER (ownCell c (rIx k)) 0 (0 : Fin 3)))
        ∗ bigSep Finset.univ fun k : Fin 3 => dutyTok ER (barCell c) 0 k) := by
    funext c
    rw [bigSep_univ_sum, ← bigSep_22 (fun j => dutyTok ER (ownCell c j) 0 (0 : Fin 3))]
    rfl
  rw [e]
  unfold toks
  rw [bigSep_sep', bigSep_sep', bigSep_sep', bigSep_sep', bigSep_sep', bigSep_sep',
    around (fun c k => dutyTok ER (ownCell c (rIx k)) 0 (0 : Fin 3)), around (fun c k => dutyTok ER (barCell c) 0 k)]
  iintro ⟨⟨HW, HS, HR⟩, HB⟩
  isplitl [HW]; · iexact HW
  isplitl [HS]; · iexact HS
  isplitl [HR]; · iexact HR
  iexact HB

/-! ## The credit at launch -/

theorem oweB_bar (d c : Dev nD) (k : Fin 3) : oweB d k (barCell c) () = if c = peer k d then 1 else 0 := by
  rw [tallyAt_apply]
  by_cases h : c = peer k d
  · rw [if_pos h, if_pos ⟨by rw [h], rfl⟩]
  · rw [if_neg h, if_neg fun e => h (congrArg (fun g : GSem nD τ sig => g.1.1) e.1)]
theorem oweR_bar (d c : Dev nD) (k : Fin 3) : oweR d k (barCell c) () = 0 := by
  rw [tallyAt_apply, if_neg fun e => own_ne_bar _ _ _ e.1.symm]
theorem oweB_own (d c : Dev nD) (k : Fin 3) (j : Fin 22) : oweB d k (ownCell c j) () = 0 := by
  rw [tallyAt_apply, if_neg fun e => own_ne_bar _ _ _ e.1]
theorem oweR_own (d c : Dev nD) (k j : Fin 3) : oweR d k (ownCell c (rIx j)) () = if j = k ∧ d = peer k c then Ns else 0 := by
  rw [tallyAt_apply]
  by_cases h : j = k ∧ d = peer k c
  · rw [if_pos h, if_pos ⟨by rw [h.1, h.2, peer_peer], rfl⟩]
  · rw [if_neg h, if_neg fun e => h ⟨?_, ?_⟩]
    · have := osem_inj (congrArg Prod.snd e.1)
      have := Fin.val_eq_of_eq this
      exact Fin.ext (by simpa using this)
    · have : c = peer k d := congrArg (fun g : GSem nD τ sig => g.1.1) e.1
      rw [this, peer_peer]

theorem owed_bar (d c : Dev nD) : O₀ d (barCell c) () = if d = c then 0 else 1 := by
  unfold O₀ OR
  simp only [Pi.add_apply, Finsupp.add_apply, oweB_bar, oweR_bar]
  revert d c; decide
theorem owed_own (d c : Dev nD) (j : Fin 3) : O₀ d (ownCell c (rIx j)) () = if d = peer j c then Ns else 0 := by
  unfold O₀ OR
  simp only [Pi.add_apply, Finsupp.add_apply]
  rw [oweB_own, oweB_own, oweB_own, oweR_own, oweR_own, oweR_own]
  fin_cases j <;> simp

theorem credit_bar : tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide
theorem credit_own (j : Fin 3) :
    tallyOn (ownCell c (rIx j)) (launchCredit (Pipeline.owing O₀) 0 (ownCell c (rIx j))) = (tallyAt (ownCell c (rIx j)) () Ns : CellTallies nD τ sig Unit) := by
  unfold tallyAt; refine congrArg _ (Finsupp.ext fun u => ?_); cases u
  rw [Pipeline.launchCredit_owing, Finsupp.single_eq_same, Finset.sum_congr rfl fun d _ => owed_own d c j,
    Finset.sum_ite_eq' Finset.univ (peer j c) fun _ => Ns, if_pos (Finset.mem_univ _)]

def recvEmb : Fin 3 ↪ SemLoc sig := ⟨fun k => osem (rIx k), by decide⟩

theorem creds_intro : (Pipeline.launchCred O₀ c : sProp 𝕄) ⊢ creds c := by
  unfold Pipeline.launchCred creds
  rw [bigSep_univ_at _ (SemLoc.reg barS), credit_bar]
  refine sep_mono_right ?_
  have h : (bigSep Finset.univ fun k : Fin 3 => cred (tallyAt (ownCell c (rIx k)) () Ns) : sProp 𝕄)
      = bigSep (Finset.univ.map recvEmb) fun sm => cred (tallyOn ((c : Thread nD τ), sm) (launchCredit (Pipeline.owing O₀) 0 ((c : Thread nD τ), sm))) := by
    rw [bigSep_map]
    exact bigSep_congr fun k _ => by rw [← credit_own c k]; rfl
  rw [h]
  exact bigSep_subset (by decide)

/-! ## The launch -/

def u₀ : UU :=
  (initOf (Pipeline.cells (Pipeline.pin (pcfgs (F := F)) adm) cellOf_inj) (Pipeline.launchToks (Pipeline.pin (pcfgs (F := F)) adm) cellOf_inj),
    launchOf barCells ownCells allToks)

/-- The protocol's launch element, held as device 0's until every device's holdings are dealt together. -/
def G (c : Dev nD) : sProp 𝕄 := if c = 0 then BI.own (ER (launchOf barCells ownCells allToks)) else iprop(emp)
theorem G_all : bigSep Finset.univ (G (F := F)) = BI.own (ER (launchOf barCells ownCells allToks)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

theorem recs_intro (I : Ins F) (K : GSem nD τ sig → ℕ) :
    iprop((bigSep (barCells ∪ ownCells) fun g => cellInv ER (Rd I) (K g) g) ∗ bigSep barCells fun g => reached ER g 0) ⊢ recs I K := by
  unfold recs
  have e : bigSep (barCells ∪ ownCells) (fun g => (cellInv ER (Rd I) (K g) g : sProp 𝕄))
      = iprop(bigSep barCells (fun g => cellInv ER (Rd I) (K g) g) ∗ bigSep ownCells fun g => cellInv ER (Rd I) (K g) g) := bigSep_union cells_disjoint
  rw [e, bigSep_map, bigSep_map, bigSep_map]
  iintro ⟨⟨H1, H2⟩, H3⟩
  isplitl [H1]; · iexact H1
  isplitl [H2]; · iexact H2
  iexact H3

/-- What a device starts with beside the records. -/
def share (c : Dev nD) : sProp 𝕄 :=
  iprop(atPos ER (barCell c) 0 ∅ 0 ∗ (bigSep Finset.univ fun j : Fin 22 => openTok ER (ownCell c j)) ∗ toks c)
def hold (c : Dev nD) : sProp 𝕄 :=
  iprop(StableHlo.held (c : Thread nD τ) bufs (V₀ m c) ∗ creds c ∗ owes (c : Thread nD τ) (O₀ c) ∅ ∗ ∃ r, prngReg c r)

abbrev T₀ (c : Dev nD) : sProp 𝕄 := iprop(StableHlo.held (c : Thread nD τ) bufs (V₀ m c) ∗ R m c)
/-- The buffers at the end. -/
abbrev V₃ (c : Dev nD) : Valuation τ sig (Elt F) := StableHlo.after hostOps1 (V₂ m c)
abbrev Tₙ (c : Dev nD) : sProp 𝕄 := iprop(StableHlo.held (c : Thread nD τ) bufs (V₃ m c) ∗ semVal (barCell c) 0)

theorem start_intro (K : GSem nD τ sig → ℕ) : iprop(recs (ins m) K ∗ (share c ∗ hold m c)) ⊢ T₀ m c := by
  unfold share hold T₀ R Tk owesE
  iintro ⟨#HR, ⟨Hat, Hop, Ht⟩, Hh, Hc, HO, Hp⟩
  isplitl [Hh]; · iexact Hh
  isplitl [Hat Hop Ht Hc]
  · iexists K
    isplitr; · iexact HR
    isplitl [Hat]; · iexact Hat
    isplitl [Hop]; · iexact Hop
    isplitl [Ht]; · iexact Ht
    iexact Hc
  isplitl [Hp]; · iexact Hp
  iexists ∅; iexact HO

theorem unscopedSems_eq : (unscopedSems0 c : sProp 𝕄) = semVal (barCell c) 0 := by
  unfold unscopedSems0
  rw [show (Finset.univ.filter fun sm : SemLoc sig => ¬ sm.isScoped .tc) = {SemLoc.reg barS} from by decide, BI.bigSep_singleton]

theorem device_start : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(hold m c ∗ (semVal (barCell c) 0 ∗ G c)) : sProp 𝕄) := by
  rw [show unscopedBufs c (fun b => m ((c : Thread nD τ).loc b)) = StableHlo.held (c : Thread nD τ) bufs (V₀ m c) from unscopedBufs_held c (V₀ m c),
    unscopedSems_eq]
  unfold hold
  iintro ⟨Hh, Hs, HO, Hcr, Hp, HG⟩
  ihave Hc := (creds_intro (F := F) c) $$ Hcr
  isplitr [Hs HG]
  · isplitl [Hh]; · iexact Hh
    isplitl [Hc]; · iexact Hc
    isplitl [HO]; · iexact HO
    iexists (ρ c); iexact Hp
  isplitl [Hs]; · iexact Hs
  iexact HG

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hd : (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (iprop(bigSep Finset.univ (hold m) ∗ (bigSep Finset.univ fun c : Dev nD => semVal (barCell c) 0) ∗ bigSep Finset.univ (G (F := F))) : sProp 𝕄) := by
    refine (bigSep_mono fun c _ => device_start m ρ c).trans ?_
    rw [bigSep_sep', bigSep_sep']; exact BI.Entails.refl _
  have hv : (bigSep Finset.univ fun c : Dev nD => (semVal (barCell c) 0 : sProp 𝕄)) = bigSep barCells (fun g => (semVal g 0 : sProp 𝕄)) := by
    rw [bigSep_map]; rfl
  have hat : bigSep barCells (fun g => (atPos ER g 0 ∅ 0 : sProp 𝕄)) = bigSep Finset.univ (fun c : Dev nD => (atPos ER (barCell c) 0 ∅ 0 : sProp 𝕄)) := by
    rw [bigSep_map]; rfl
  have hop : bigSep ownCells (fun g => (openTok ER g : sProp 𝕄))
      = bigSep Finset.univ (fun c : Dev nD => bigSep Finset.univ fun j : Fin 22 => openTok ER (ownCell c j)) := by
    rw [bigSep_map, bigSep_univ_prod]; rfl
  iintro ⟨H, -⟩
  ihave H' := hd $$ H
  icases H' with ⟨HB, Hv, HG⟩
  ihave Hu := (Entails.of_eq (G_all (F := F))) $$ HG
  imod (Rounds.fund_launch ER (Rd (ins m)) cells_disjoint (fun g _ h => h) allToks) $$ [Hv Hu] with ⟨%K, -, #Hinv, #Hr, Hat, Hopen, Htok⟩
  · isplitl [Hv]
    · iapply (Entails.of_eq hv) $$ Hv
    · iexact Hu
  imodintro
  iapply (bigSep_with_persistent (R := recs (ins m) K) (Φ := fun c => iprop(share c ∗ hold m c)) fun c _ => start_intro m c K)
  isplitr
  · iapply (recs_intro (ins m) K)
    isplitr; · iexact Hinv
    iexact Hr
  unfold share
  rw [bigSep_sep', bigSep_sep', bigSep_sep']
  isplitr [HB]
  · isplitl [Hat]; · iapply (Entails.of_eq hat) $$ Hat
    isplitl [Hopen]; · iapply (Entails.of_eq hop) $$ Hopen
    iapply (toks_dealt (F := F)) $$ Htok
  · iexact HB

/-! ## The contents at the end -/

theorem V₁_of_ne (b : Ref sig .tc) (h : b ≠ main_v1) : V₁ m c b = m ((c : Thread nD τ).loc b) := by
  refine StableHlo.after_of_forall_not_mem (b := Proc.devRef .tc b) _ _ fun op hop => ?_
  rw [List.mem_singleton] at hop; subst hop
  rw [StableHlo.reshape_writes, Finset.mem_singleton]
  exact StableHlo.devRef_ne_of_ne h
theorem V₃_of_ne (b : Ref sig .tc) (h : b ≠ main_v3) : V₃ m c b = V₂ m c b := by
  refine StableHlo.after_of_forall_not_mem (b := Proc.devRef .tc b) _ _ fun op hop => ?_
  rw [List.mem_singleton] at hop; subst hop
  rw [StableHlo.reshape_writes, Finset.mem_singleton]
  exact StableHlo.devRef_ne_of_ne h
theorem V₃_arg (b : Ref sig .tc) (h1 : b ≠ main_v1) (h2 : b ≠ main_v2) (h3 : b ≠ main_v3) : V₃ m c b = m ((c : Thread nD τ).loc b) :=
  (V₃_of_ne m c b h3).trans ((V₂_of_ne m c _ (StableHlo.devRef_ne_of_ne h2)).trans (V₁_of_ne m c b h1))

theorem bufs_eq (V : Valuation τ sig (Elt F)) : (StableHlo.held (c : Thread nD τ) bufs V : sProp 𝕄)
    = iprop((((c : Thread nD τ).loc main_arg0) ↦{fullShare} V main_arg0) ∗ (((c : Thread nD τ).loc main_arg1) ↦{fullShare} V main_arg1)
      ∗ (((c : Thread nD τ).loc main_arg2) ↦{fullShare} V main_arg2) ∗ (((c : Thread nD τ).loc main_v1) ↦{fullShare} V main_v1)
      ∗ (((c : Thread nD τ).loc main_v2) ↦{fullShare} V main_v2) ∗ (((c : Thread nD τ).loc main_v3) ↦{fullShare} V main_v3)) := by
  unfold StableHlo.held
  rw [bigSep_eq_bigSepL_of_eq [Proc.devRef .tc main_arg0, Proc.devRef .tc main_arg1, Proc.devRef .tc main_arg2, Proc.devRef .tc main_v1,
    Proc.devRef .tc main_v2, Proc.devRef .tc main_v3] (by decide) (by decide)]
  rfl

theorem unscoped_eq : ∀ sm : SemLoc sig, sm.isScoped .tc = false → sm = .reg barS := by decide

set_option backward.isDefEq.respectTransparency.types false in
/-- THE RUN. From any memory with every counter at zero, every weakly fair execution of the program on the four devices
    ends, with each device's result at the reshaped output row, its arguments unchanged, and every counter at zero. -/
theorem run_main : θ_run defs (onTc (τ := τ) (main (F := F))) ⟨m, fun _ => 0, ρ⟩
    (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_v3) = V₃ m c main_v3) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀)
    (hu₀ := by
      unfold u₀
      iintro Hu
      ihave H := (ownU_pair _ _) $$ Hu
      icases H with ⟨HP, HX⟩
      imodintro
      isplitl [HP]; · iexact HP
      rw [G_all]; iexact HX)
    (T₀ := T₀ m) (Tₙ := Tₙ m)
    (hch := by
      refine ⟨fun c => .rfl, fun c => reg_pre m c, fun c => reg_post m c, fun c => ?_⟩
      show iprop(StableHlo.held (c : Thread nD τ) bufs (V₃ m c) ∗ R' c)
        ⊢ iprop(Tₙ m c ∗ ∃ W, owes (c : Thread nD τ) (0 : CellTallies nD τ sig Unit) W)
      unfold R' owesE
      iintro ⟨Hh, Hb, HO⟩
      isplitr [HO]
      · isplitl [Hh]; · iexact Hh
        iexact Hb
      · iexact HO)
    (hinit := init m ρ)
    (QY := fun c s => (s.mem ((c : Thread nD τ).loc main_arg0) = V₃ m c main_arg0 ∧ s.mem ((c : Thread nD τ).loc main_arg1) = V₃ m c main_arg1
        ∧ s.mem ((c : Thread nD τ).loc main_arg2) = V₃ m c main_arg2 ∧ s.mem ((c : Thread nD τ).loc main_v3) = V₃ m c main_v3)
      ∧ s.sem (barCell c) = 0)
    (hfin := fun c s' => by
      dsimp only [Tₙ]; rw [bufs_eq]
      iintro ⟨⟨⟨H0, H1, H2, -, -, H3⟩, Hb⟩, HSI⟩
      icombine HSI H0 gives %h0
      icombine HSI H1 gives %h1
      icombine HSI H2 gives %h2
      icombine HSI H3 gives %h3
      icombine HSI Hb gives %hb
      imodintro
      isplitr
      · ipureintro
        exact ⟨⟨Buf.eq_of_forall_mem_univ h0, Buf.eq_of_forall_mem_univ h1, Buf.eq_of_forall_mem_univ h2, Buf.eq_of_forall_mem_univ h3⟩, by simpa using hb⟩
      iexact HSI)
    (hQ := fun s h hs => ⟨fun c => by
        obtain ⟨⟨h0, h1, h2, h3⟩, -⟩ := h c
        rw [V₃_arg m c main_arg0 (by decide) (by decide) (by decide)] at h0
        rw [V₃_arg m c main_arg1 (by decide) (by decide) (by decide)] at h1
        rw [V₃_arg m c main_arg2 (by decide) (by decide) (by decide)] at h2
        exact ⟨h0, h1, h2, h3⟩,
      sem_eq_zero hs fun c sm hsm => by
        obtain rfl := unscoped_eq sm hsm
        exact (h c).2⟩)

end Cert.KernelIdeal.Xent

end
-- ==== Proof.Xent.Frames.lean ====
/- What the frames claim, read off the runs. -/
module

public import proofs.«01_k».proof.Proof.Xent.Run
public import proofs.«01_k».proof.Proof.Gen.Kernel
public import proofs.«01_k».proof.Proof.Gen.ReferenceIdeal.Run
public import proofs.«01_k».proof.Defs

@[expose] public section

noncomputable section

namespace Cert.Proof

open Idealize.ShloMosaic Idealize.ShloMosaic.TcCoe Idealize.SL.Sem

/-- The two programs have the same text, so they bind the same label to the same body. -/
theorem defs₀_eq {F : FTy → Type} [FloatOps F] : Cert.Kernel.defs₀ (F := F) = Cert.KernelIdeal.defs₀ (F := F) := by
  unfold Cert.Kernel.defs₀ Cert.KernelIdeal.defs₀
  refine congrArg Defs.onTc ?_
  funext l p
  match l, p with
  | 0, (t, s) => rfl

theorem defs_eq {F : FTy → Type} [FloatOps F] : Cert.Kernel.defs (F := F) = Cert.KernelIdeal.defs (F := F) :=
  congrArg (Pipeline.defs Cert.KernelIdeal.pcfgs) defs₀_eq

/-- The kernel at the words: the run over any float values, with the result dropped. -/
theorem frame_kernel : Cert.quiescent_Kernel (hKernel := Cert.Kernel.Gen.facts) := fun m ρ _ => by
  rw [defs_eq]
  exact (θ_run Cert.KernelIdeal.defs _ _).mono
    (fun _ h => ⟨fun c => ⟨(h.1 c).1, (h.1 c).2.1, (h.1 c).2.2.1⟩, h.2⟩)
    (Cert.KernelIdeal.Xent.run_main (F := Bits) m ρ)

/-- The kernel at the reals. -/
theorem frame_kernelIdeal : Cert.quiescent_KernelIdeal (hKernelIdeal := Cert.KernelIdeal.Gen.facts) := fun m ρ _ =>
  (θ_run Cert.KernelIdeal.defs _ _).mono (fun _ h => ⟨fun c => ⟨(h.1 c).1, (h.1 c).2.1, (h.1 c).2.2.1⟩, h.2⟩)
    (Cert.KernelIdeal.Xent.run_main (F := Ideal) m ρ)

/-- The reference declares no semaphore, so its run leaves every counter at zero. -/
theorem frame_referenceIdeal : Cert.quiescent_ReferenceIdeal (hReferenceIdeal := Cert.ReferenceIdeal.Gen.facts) := fun m ρ _ =>
  (θ_run Cert.ReferenceIdeal.defs _ _).mono (fun _ h => ⟨fun c => (h c).2, sem_eq_zero_of_no_sems (by decide) _⟩)
    (Cert.ReferenceIdeal.Value.run (F := Ideal) m ρ)

end Cert.Proof

end
-- ==== Proof.Loss.Lse.lean ====
/- The mathematics of a running log-sum-exp over the extended reals: a sum of exponentials below one bound rescaled
   to another, a block of terms taken in, and the logarithm of the sum, which does not depend on the bound. -/
module

public import Idealize.ShloMosaic.PureOps.Ideal
public import Mathlib.Data.EReal.Operations
public import Mathlib.Data.Finset.Lattice.Fold

@[expose] public section

noncomputable section

namespace Cert.Loss

open Idealize.ShloMosaic
open scoped BigOperators

theorem ex_nonneg (x : EReal) : 0 ≤ Ideal.exp x := by
  induction x with
  | bot => exact le_refl _
  | top => exact le_top
  | coe r => exact EReal.coe_nonneg.mpr (Real.exp_pos r).le

theorem ex_coe (r : ℝ) : Ideal.exp (r : EReal) = (Real.exp r : EReal) := rfl
theorem ex_bot : Ideal.exp ⊥ = 0 := rfl
theorem ex_top : Ideal.exp ⊤ = ⊤ := rfl

theorem sub_top (x : EReal) : x - ⊤ = ⊥ := by rw [sub_eq_add_neg, EReal.neg_top, EReal.add_bot]

/-- One term rescaled from the bound `m` to a bound `m'` that is no smaller. -/
theorem ex_rescale {m m' : EReal} (l : EReal) (hm : m ≠ ⊥) (h : m ≤ m') : Ideal.exp (l - m) * Ideal.exp (m - m') = Ideal.exp (l - m') := by
  induction m' with
  | bot => exact absurd (le_bot_iff.mp h) hm
  | top => rw [sub_top, sub_top, ex_bot, mul_zero]
  | coe b =>
    induction m with
    | bot => exact absurd rfl hm
    | top => exact absurd (top_le_iff.mp h) (EReal.coe_ne_top b)
    | coe a =>
      rw [← EReal.coe_sub, ex_coe]
      induction l with
      | bot => simp only [EReal.bot_sub, ex_bot, zero_mul]
      | top =>
        rw [EReal.top_sub_coe, EReal.top_sub_coe, ex_top, EReal.top_mul_of_pos]
        exact EReal.coe_pos.mpr (Real.exp_pos _)
      | coe r =>
        rw [← EReal.coe_sub, ← EReal.coe_sub, ex_coe, ex_coe, ← EReal.coe_mul, ← Real.exp_add]
        congr 2; ring

/-- The sum of the terms of `l` below the bound `m`. -/
def esum {ι : Type} [Fintype ι] (l : ι → EReal) (m : EReal) : EReal := ∑ j, Ideal.exp (l j - m)

theorem sum_mul_of_nonneg {ι : Type} (s : Finset ι) (f : ι → EReal) (hf : ∀ i, 0 ≤ f i) (c : EReal) :
    (∑ i ∈ s, f i) * c = ∑ i ∈ s, f i * c := by
  classical
  induction s using Finset.induction_on with
  | empty => simp
  | insert a s ha ih =>
    rw [Finset.sum_insert ha, Finset.sum_insert ha, EReal.right_distrib_of_nonneg (hf a) (Finset.sum_nonneg fun i _ => hf i), ih]

theorem esum_nonneg {ι : Type} [Fintype ι] (l : ι → EReal) (m : EReal) : 0 ≤ esum l m :=
  Finset.sum_nonneg fun _ _ => ex_nonneg _

theorem esum_rescale {ι : Type} [Fintype ι] (l : ι → EReal) {m m' : EReal} (hm : m ≠ ⊥) (h : m ≤ m') :
    esum l m * Ideal.exp (m - m') = esum l m' := by
  unfold esum
  rw [sum_mul_of_nonneg _ _ fun _ => ex_nonneg _]
  exact Finset.sum_congr rfl fun j _ => ex_rescale (l j) hm h

/-- The greatest value of a row, `⊥` for none. -/
abbrev rmax {ι : Type} [Fintype ι] (l : ι → EReal) : EReal := Finset.univ.sup l

theorem log_zero : Ideal.log 0 = ⊥ := by
  show Ideal.log ((0 : ℝ) : EReal) = ⊥
  exact if_pos (le_refl (0 : ℝ))

/-- A term below a real bound that it does not exceed is a nonnegative real, positive unless the term is `⊥`. -/
theorem term_real (x : EReal) (a : ℝ) (h : x ≤ (a : EReal)) :
    ∃ r : ℝ, Ideal.exp (x - (a : EReal)) = (r : EReal) ∧ 0 ≤ r ∧ (x ≠ ⊥ → 0 < r) := by
  induction x with
  | bot => exact ⟨0, by rw [EReal.bot_sub, ex_bot]; rfl, le_refl _, fun h => absurd rfl h⟩
  | top => exact absurd (top_le_iff.mp h) (EReal.coe_ne_top a)
  | coe x => exact ⟨Real.exp (x - a), by rw [← EReal.coe_sub, ex_coe], (Real.exp_pos _).le, fun _ => Real.exp_pos _⟩

/-- The log-sum-exp does not depend on the bound subtracted: any bound that is above every term and above a real
    gives what the greatest term gives. -/
theorem lse_bound {ι : Type} [Fintype ι] (l : ι → EReal) (k : ℝ) :
    max (k : EReal) (rmax l) + Ideal.log (esum l (max (k : EReal) (rmax l))) = rmax l + Ideal.log (esum l (rmax l)) := by
  have hle : ∀ j, l j ≤ rmax l := fun j => Finset.le_sup (f := l) (Finset.mem_univ j)
  generalize hM : rmax l = M at hle ⊢
  induction M with
  | bot =>
    -- every term is `⊥`
    have hb : ∀ j, l j = ⊥ := fun j => le_bot_iff.mp (hle j)
    have e : ∀ m, esum l m = 0 := fun m => Finset.sum_eq_zero fun j _ => by rw [hb j, EReal.bot_sub, ex_bot]
    rw [e, e, log_zero, EReal.add_bot, EReal.add_bot]
  | top =>
    -- some term is `⊤`
    rw [max_eq_right (le_top : (k : EReal) ≤ ⊤)]
  | coe a =>
    obtain ⟨b, hb, hab⟩ : ∃ b : ℝ, max (k : EReal) (a : EReal) = (b : EReal) ∧ a ≤ b :=
      ⟨max k a, (EReal.coe_strictMono.monotone.map_max).symm, le_max_right _ _⟩
    rw [hb]
    have hne : (a : EReal) ≠ ⊥ := EReal.coe_ne_bot a
    have hres : esum l (a : EReal) * Ideal.exp ((a : EReal) - (b : EReal)) = esum l (b : EReal) :=
      esum_rescale l hne (EReal.coe_le_coe_iff.mpr hab)
    -- the sum below the greatest term is a positive real
    obtain ⟨s, hs, hpos⟩ : ∃ s : ℝ, esum l (a : EReal) = (s : EReal) ∧ 0 < s := by
      have hterm : ∀ j, ∃ r : ℝ, Ideal.exp (l j - (a : EReal)) = (r : EReal) ∧ 0 ≤ r ∧ (l j ≠ ⊥ → 0 < r) := fun j =>
        term_real (l j) a (hle j)
      choose r hr h0 h1 using hterm
      refine ⟨∑ j, r j, ?_, ?_⟩
      · unfold esum
        rw [Finset.sum_congr rfl fun j _ => hr j]
        exact (map_sum (⟨⟨Real.toEReal, rfl⟩, EReal.coe_add⟩ : ℝ →+ EReal) r Finset.univ).symm
      · by_contra hn
        have hz : ∀ j, l j = ⊥ := by
          intro j
          by_contra hj
          exact hn (Finset.sum_pos' (fun i _ => h0 i) ⟨j, Finset.mem_univ j, h1 j hj⟩)
        have : rmax l = ⊥ := by
          exact le_bot_iff.mp (Finset.sup_le fun j _ => (hz j).le)
        rw [this] at hM
        exact hne hM.symm
    rw [← hres]
    rw [hs, ← EReal.coe_sub, ex_coe, ← EReal.coe_mul]
    have hlog : ∀ u : ℝ, 0 < u → Ideal.log (u : EReal) = (Real.log u : EReal) := fun u hu => by
      show (if u ≤ 0 then (⊥ : EReal) else (Real.log u : EReal)) = _
      rw [if_neg (not_le.mpr hu)]
    rw [hlog _ (mul_pos hpos (Real.exp_pos _)), hlog _ hpos, Real.log_mul hpos.ne' (Real.exp_pos _).ne', Real.log_exp]
    rw [← EReal.coe_add, ← EReal.coe_add]
    congr 1; ring

end Cert.Loss

end
-- ==== Proof.Loss.Row.lean ====
/- One row of the loss. The row's columns lie on four devices, in four chunks of 1024 on each: the running pair that a
   device keeps over its chunks, the four pairs put together, and the label's logit picked out of one of the sums. -/
module

public import proofs.«01_k».proof.Proof.Loss.Lse
public import Mathlib.Tactic.FinCases
public import Mathlib.Algebra.BigOperators.Fin

@[expose] public section

noncomputable section

namespace Cert.Loss

open Idealize.ShloMosaic
open scoped BigOperators

/-! ## One chunk taken in -/

/-- The running maximum after a chunk `l`. -/
def stepM {ι : Type} [Fintype ι] (m : EReal) (l : ι → EReal) : EReal := max m (rmax l)
/-- The running sum after a chunk `l`: what was there rescaled, and the chunk's own terms. -/
def stepS {ι : Type} [Fintype ι] (m s : EReal) (l : ι → EReal) : EReal := s * Ideal.exp (m - stepM m l) + esum l (stepM m l)
/-- The terms of a chunk that a test selects, added up. -/
def stepT {ι : Type} [Fintype ι] (t : EReal) (p : ι → Prop) [DecidablePred p] (l : ι → EReal) : EReal := t + ∑ j, if p j then l j else 0

/-! ## A device's four chunks -/

section Device
variable (k : EReal) (l : Fin 4 → Fin 1024 → EReal)

def devM1 : EReal := stepM k (l 0)
def devM2 : EReal := stepM (devM1 k l) (l 1)
def devM3 : EReal := stepM (devM2 k l) (l 2)
/-- A device's maximum, the start value `k` included. -/
def devM : EReal := stepM (devM3 k l) (l 3)
def devS1 : EReal := stepS k 0 (l 0)
def devS2 : EReal := stepS (devM1 k l) (devS1 k l) (l 1)
def devS3 : EReal := stepS (devM2 k l) (devS2 k l) (l 2)
/-- A device's sum. -/
def devS : EReal := stepS (devM3 k l) (devS3 k l) (l 3)

/-- The sum of the terms of a family of rows below the bound `m`. -/
def fsum (m : EReal) (n : ℕ) (hn : n ≤ 4) : EReal := ∑ i : Fin n, esum (l (i.castLE hn)) m

theorem stepM_le (m : EReal) {ι : Type} [Fintype ι] (a : ι → EReal) : m ≤ stepM m a := le_max_left _ _
theorem stepM_ne {m : EReal} (hm : m ≠ ⊥) {ι : Type} [Fintype ι] (a : ι → EReal) : stepM m a ≠ ⊥ :=
  fun h => hm (le_bot_iff.mp ((stepM_le m a).trans_eq h))

theorem fsum_nonneg_rescale {m m' : EReal} (hm : m ≠ ⊥) (h : m ≤ m') (n : ℕ) (hn : n ≤ 4) :
    fsum l m n hn * Ideal.exp (m - m') = fsum l m' n hn := by
  unfold fsum
  rw [sum_mul_of_nonneg _ _ fun _ => esum_nonneg _ _]
  exact Finset.sum_congr rfl fun i _ => esum_rescale _ hm h

/-- A step over the sum of the first `n` chunks gives the sum of one chunk more. -/
theorem stepS_fsum {m : EReal} (hm : m ≠ ⊥) (n : ℕ) (hn : n + 1 ≤ 4) :
    stepS m (fsum l m n (Nat.le_of_succ_le hn)) (l ⟨n, hn⟩) = fsum l (stepM m (l ⟨n, hn⟩)) (n + 1) hn := by
  unfold stepS
  rw [fsum_nonneg_rescale l hm (stepM_le _ _)]
  unfold fsum
  rw [Fin.sum_univ_castSucc]
  rfl

theorem devS_eq (hk : k ≠ ⊥) : devS k l = ∑ i : Fin 4, esum (l i) (devM k l) := by
  have h0 : fsum l k 0 (Nat.zero_le 4) = 0 := Finset.sum_of_isEmpty _
  have h1 : devS1 k l = fsum l (devM1 k l) 1 (by decide) := by
    unfold devS1; rw [← h0]; exact stepS_fsum l hk 0 (by decide)
  have n1 : devM1 k l ≠ ⊥ := stepM_ne hk _
  have h2 : devS2 k l = fsum l (devM2 k l) 2 (by decide) := by
    unfold devS2; rw [h1]; exact stepS_fsum l n1 1 (by decide)
  have n2 : devM2 k l ≠ ⊥ := stepM_ne n1 _
  have h3 : devS3 k l = fsum l (devM3 k l) 3 (by decide) := by
    unfold devS3; rw [h2]; exact stepS_fsum l n2 2 (by decide)
  have n3 : devM3 k l ≠ ⊥ := stepM_ne n2 _
  unfold devS; rw [h3]
  exact stepS_fsum l n3 3 (by decide)

theorem devM_eq : devM k l = max k (Finset.univ.sup fun i => rmax (l i)) := by
  have : (Finset.univ.sup fun i => rmax (l i)) = max (max (max (rmax (l 0)) (rmax (l 1))) (rmax (l 2))) (rmax (l 3)) := by
    refine le_antisymm (Finset.sup_le fun i _ => ?_) ?_
    · fin_cases i <;> simp
    · have h : ∀ i, rmax (l i) ≤ Finset.univ.sup fun i => rmax (l i) := fun i =>
        Finset.le_sup (f := fun i => rmax (l i)) (Finset.mem_univ i)
      exact max_le (max_le (max_le (h 0) (h 1)) (h 2)) (h 3)
  rw [this]
  unfold devM devM3 devM2 devM1 stepM
  simp only [max_assoc]

end Device

/-! ## The four devices put together -/

/-- The common bound of four devices. -/
def allM (M : Fin 4 → EReal) (c a b d : Fin 4) : EReal := max (max (M c) (M a)) (max (M b) (M d))
/-- The four sums brought below the common bound `B` and added. -/
def allS (M S : Fin 4 → EReal) (c a b d : Fin 4) : EReal :=
  0 + S c * Ideal.exp (M c - allM M c a b d) + S a * Ideal.exp (M a - allM M c a b d) + S b * Ideal.exp (M b - allM M c a b d)
    + S d * Ideal.exp (M d - allM M c a b d)

/-- The four devices are `c` and three others. -/
def Four (c a b d : Fin 4) : Prop := ({c, a, b, d} : Finset (Fin 4)) = Finset.univ ∧ c ≠ a ∧ c ≠ b ∧ c ≠ d ∧ a ≠ b ∧ a ≠ d ∧ b ≠ d

theorem Four.sum {c a b d : Fin 4} (h : Four c a b d) (f : Fin 4 → EReal) : f c + f a + f b + f d = ∑ i, f i := by
  obtain ⟨hu, h1, h2, h3, h4, h5, h6⟩ := h
  rw [← hu, Finset.sum_insert (by simp [h1, h2, h3]), Finset.sum_insert (by simp [h4, h5]), Finset.sum_insert (by simp [h6]),
    Finset.sum_singleton]
  simp only [add_assoc]

theorem Four.max {c a b d : Fin 4} (h : Four c a b d) (M : Fin 4 → EReal) : allM M c a b d = Finset.univ.sup M := by
  rw [← h.1]
  simp only [Finset.sup_insert, Finset.sup_singleton, allM, max_assoc]

/-- The four pairs, put together, are the pair of all the columns. -/
theorem allS_eq {c a b d : Fin 4} (h : Four c a b d) (k : EReal) (hk : k ≠ ⊥) (l : Fin 4 → Fin 4 → Fin 1024 → EReal) :
    allS (fun i => devM k (l i)) (fun i => devS k (l i)) c a b d
      = ∑ i : Fin 4, ∑ n : Fin 4, esum (l i n) (allM (fun i => devM k (l i)) c a b d) := by
  rw [← h.sum]
  have hle : ∀ i, devM k (l i) ≤ allM (fun i => devM k (l i)) c a b d := by
    intro i; rw [h.max]; exact Finset.le_sup (f := fun i => devM k (l i)) (Finset.mem_univ i)
  have hne : ∀ i, devM k (l i) ≠ ⊥ := fun i e => hk (le_bot_iff.mp (by
    rw [← e, devM_eq]; exact le_max_left _ _))
  have key : ∀ i, devS k (l i) * Ideal.exp (devM k (l i) - allM (fun i => devM k (l i)) c a b d)
      = ∑ n : Fin 4, esum (l i n) (allM (fun i => devM k (l i)) c a b d) := by
    intro i
    rw [devS_eq k (l i) hk, sum_mul_of_nonneg _ _ fun _ => esum_nonneg _ _]
    exact Finset.sum_congr rfl fun n _ => esum_rescale _ (hne i) (hle i)
  unfold allS
  rw [zero_add, key, key, key, key]

theorem allM_eq {c a b d : Fin 4} (h : Four c a b d) (k : EReal) (l : Fin 4 → Fin 4 → Fin 1024 → EReal) :
    allM (fun i => devM k (l i)) c a b d = max k (Finset.univ.sup fun i => Finset.univ.sup fun n => rmax (l i n)) := by
  rw [h.max]
  simp only [devM_eq]
  refine le_antisymm (Finset.sup_le fun i _ => max_le_max (le_refl _) ?_) (max_le ?_ (Finset.sup_le fun i _ => ?_))
  · exact Finset.le_sup (f := fun i => Finset.univ.sup fun n => rmax (l i n)) (Finset.mem_univ i)
  · exact (le_max_left _ _).trans (Finset.le_sup (f := fun i => Max.max k (Finset.univ.sup fun n => rmax (l i n))) (Finset.mem_univ c))
  · exact (le_max_right _ _).trans (Finset.le_sup (f := fun i => Max.max k (Finset.univ.sup fun n => rmax (l i n))) (Finset.mem_univ i))

/-! ## The columns -/

/-- The whole weight's column of device `i`, chunk `n`, place `j`: the device's second mesh coordinate names its half of
    the columns, its first the half of that half it works on. -/
def col (i n : Fin 4) (j : Fin 1024) : Fin 16384 :=
  ⟨i.val % 2 * 8192 + i.val / 2 * 4096 + n.val * 1024 + j.val, by omega⟩

theorem col_bijective : Function.Bijective fun p : Fin 4 × Fin 4 × Fin 1024 => col p.1 p.2.1 p.2.2 := by
  constructor
  · rintro ⟨i, n, j⟩ ⟨i', n', j'⟩ h
    have h := congrArg Fin.val h
    simp only [col] at h
    obtain rfl : i = i' := Fin.ext (by omega)
    obtain rfl : n = n' := Fin.ext (by omega)
    obtain rfl : j = j' := Fin.ext (by omega)
    rfl
  · intro q
    refine ⟨(⟨q.val / 8192 + 2 * (q.val % 8192 / 4096), by omega⟩, ⟨q.val % 4096 / 1024, by omega⟩, ⟨q.val % 1024, by omega⟩), Fin.ext ?_⟩
    simp only [col]
    omega

/-- A sum over all columns, device by device and chunk by chunk. -/
theorem sum_col (f : Fin 16384 → EReal) : ∑ i : Fin 4, ∑ n : Fin 4, ∑ j : Fin 1024, f (col i n j) = ∑ q, f q := by
  rw [← (Function.Bijective.sum_comp col_bijective f), Fintype.sum_prod_type]
  exact Finset.sum_congr rfl fun i _ => (Fintype.sum_prod_type fun y : Fin 4 × Fin 1024 => f (col i y.1 y.2)).symm

/-- The greatest value of all columns, device by device and chunk by chunk. -/
theorem sup_col (f : Fin 16384 → EReal) :
    (Finset.univ.sup fun i : Fin 4 => Finset.univ.sup fun n : Fin 4 => rmax fun j : Fin 1024 => f (col i n j)) = rmax f := by
  refine le_antisymm (Finset.sup_le fun i _ => Finset.sup_le fun n _ => Finset.sup_le fun j _ => ?_) (Finset.sup_le fun q _ => ?_)
  · exact Finset.le_sup (f := f) (Finset.mem_univ _)
  · obtain ⟨⟨i, n, j⟩, rfl⟩ := col_bijective.2 q
    calc f (col i n j) ≤ rmax fun j : Fin 1024 => f (col i n j) := Finset.le_sup (f := fun j => f (col i n j)) (Finset.mem_univ j)
      _ ≤ Finset.univ.sup fun n : Fin 4 => rmax fun j : Fin 1024 => f (col i n j) :=
        Finset.le_sup (f := fun n : Fin 4 => rmax fun j : Fin 1024 => f (col i n j)) (Finset.mem_univ n)
      _ ≤ _ := Finset.le_sup (f := fun i : Fin 4 => Finset.univ.sup fun n : Fin 4 => rmax fun j : Fin 1024 => f (col i n j)) (Finset.mem_univ i)

/-- A device's label sum over its four chunks. -/
def devT (p : Fin 4 → Fin 1024 → Prop) [∀ n, DecidablePred (p n)] (l : Fin 4 → Fin 1024 → EReal) : EReal :=
  stepT (stepT (stepT (stepT 0 (p 0) (l 0)) (p 1) (l 1)) (p 2) (l 2)) (p 3) (l 3)

theorem devT_eq (p : Fin 4 → Fin 1024 → Prop) [∀ n, DecidablePred (p n)] (l : Fin 4 → Fin 1024 → EReal) :
    devT p l = ∑ n, ∑ j, if p n j then l n j else 0 := by
  unfold devT stepT
  rw [zero_add, Fin.sum_univ_four]

/-- The row's loss as the kernel's four devices compute it is the log-sum-exp of the row less the label's logit. -/
theorem loss_eq {c a b d : Fin 4} (h : Four c a b d) (k : ℝ) (r : Fin 16384 → EReal) (q : Fin 16384) :
    let l := fun i n j => r (col i n j)
    let M := fun i => devM (k : EReal) (l i)
    let S := fun i => devS (k : EReal) (l i)
    let T := fun i => devT (fun n j => col i n j = q) (l i)
    allM M c a b d + Ideal.log (allS M S c a b d) - (T c + T a + T b + T d)
      = rmax r + Ideal.log (0 + esum r (rmax r)) - r q := by
  intro l M S T
  have hM : allM M c a b d = max (k : EReal) (rmax r) := (allM_eq h (k : EReal) l).trans (by rw [sup_col])
  have hS : allS M S c a b d = esum r (max (k : EReal) (rmax r)) := by
    rw [← hM]
    refine (allS_eq h (k : EReal) (EReal.coe_ne_bot k) l).trans ?_
    exact sum_col fun q => Ideal.exp (r q - allM M c a b d)
  have hT : T c + T a + T b + T d = r q := by
    rw [h.sum]
    have : ∀ i, T i = ∑ n, ∑ j, if col i n j = q then r (col i n j) else 0 := fun i => devT_eq _ _
    simp only [this]
    rw [sum_col fun x => if x = q then r x else 0]
    simp
  rw [hM, hS, hT, lse_bound, zero_add]

end Cert.Loss

end
-- ==== Proof.Loss.Chunk.lean ====
/- One chunk of the kernel's loop read at a row, over the extended reals: the logits, the running maximum, the running
   sum and the label's logit after it. -/
module

public import proofs.«01_k».proof.Proof.Xent.Stats
public import proofs.«01_k».proof.Proof.Loss.Row
public import Idealize.ShloMosaic.Lib.MatmulPlain
public import Idealize.ShloMosaic.Lib.ValueLayoutCasts

@[expose] public section

noncomputable section

namespace Cert.Loss

open Idealize.ShloMosaic Idealize.ShloMosaic.ValueIdx
open Cert.KernelIdeal Cert.KernelIdeal.Gen Cert.KernelIdeal.Xent
open scoped BigOperators

/-- The value the running maximum starts from. -/
def k₀ : EReal := Ideal.ofBits .f32 0xF149F2CA#32

theorem k₀_real : ∃ k : ℝ, k₀ = (k : EReal) := by
  unfold k₀
  simp only [Ideal.ofBits, Ideal.ieee]
  rw [if_neg (by decide)]
  exact ⟨_, rfl⟩

theorem neg_inf : Ideal.ofBits .f32 0xFF800000#32 = ⊥ := by simp [Ideal.ofBits, Ideal.ieee]

/-! ## Reductions along a row -/

theorem lift_row (r : Fin 512) (j : Fin 1024) :
    (reduces_S512x1024_S512).lift (ix1 r) j = (ix2 r j : S512x1024.Idx) := by
  funext a; apply Fin.ext
  match a with
  | ⟨0, _⟩ => rfl
  | ⟨1, _⟩ => rfl

/-- A row's greatest value, taken from −∞ upwards. -/
theorem fold_max {n : ℕ} (f : Fin n → EReal) : (Finset.univ : Finset (Fin n)).fold max ⊥ f = rmax f := rfl

theorem max_row (v : FVec Ideal S512x1024 .f32) (r : Fin 512) :
    multiReduction .maximumf [1] S512 v 0xFF800000#32 reduces_S512x1024_S512 (.inl rfl) rfl (ix1 r) = rmax fun j : Fin 1024 => v (ix2 r j) := by
  refine (Ideal.multiReduction_maximumf_single v _ reduces_S512x1024_S512 _ _ (ix1 r)).trans ?_
  refine Eq.trans ?_ (fold_max _)
  show Finset.fold max (Ideal.ofBits .f32 0xFF800000#32) _ _ = _
  rw [neg_inf]
  exact congrArg (Finset.fold max ⊥ · _) (funext fun j => congrArg v (lift_row r j))

theorem sum_row (v : FVec Ideal S512x1024 .f32) (r : Fin 512) :
    multiReduction .add [1] S512 v 0x00000000#32 reduces_S512x1024_S512 (.inl rfl) rfl (ix1 r) = ∑ j : Fin 1024, v (ix2 r j) := by
  refine (Ideal.multiReduction_add_single v _ reduces_S512x1024_S512 _ _ (ix1 r)).trans ?_
  exact Finset.sum_congr rfl fun j _ => congrArg v (lift_row r j)

/-- A column spread over a row's places. -/
theorem spread {α : Type} (v : S512x1.Idx → α) (r : Fin 512) (j : Fin 1024) :
    broadcastTo S512x1024 v broadcasts_S512x1_S512x1024 (ix2 r j) = v (ix2 r 0) :=
  broadcastTo_apply v _ _ _ fun a => by
    match a with
    | ⟨0, _⟩ => rfl
    | ⟨1, _⟩ => rfl

/-! ## The chunk's logits -/

section
variable (x : FVec Ideal S512x1024 .bf16) (w : Vec Ideal S1x1024x1024 .f32)

theorem logits_apply (r : Fin 512) (j : Fin 1024) :
    k0_pay7 x w (ix2 r j) = ∑ d : Fin 1024, x (ix2 r d) * w (ix3 0 d j) := by
  refine (Ideal.matmul_plain_apply none x (truncf .bf16 (shapeCast S1024x1024 w shapeCasts_S1x1024x1024_S1024x1024) bitsLt_bf16_f32)
    (constant S512x1024 .f32 0x00000000#32) r j).trans ?_
  show Ideal.ofBits .f32 0x00000000#32 + _ = _
  rw [Ideal.ofBits_zero_f32, zero_add]
  exact Finset.sum_congr rfl fun d _ => congrArg (x (ix2 r d) * ·) (shapeCast_1ab_ab_apply w _ d j)

/-- The four chunks' payloads are one and the same function, spelled once for each. -/
theorem logits_two : k0_pay12 x w = k0_pay7 x w := rfl
theorem logits_three : k0_pay16 x w = k0_pay7 x w := rfl
theorem logits_four : k0_pay22 x w = k0_pay7 x w := rfl
theorem max_two (m : FVec Ideal S512x1 .f32) : k0_pay13 x m w = k0_pay8 x m w := rfl
theorem max_three (m : FVec Ideal S512x1 .f32) : k0_pay17 x m w = k0_pay8 x m w := rfl
theorem max_four (m : FVec Ideal S512x1 .f32) : k0_pay23 x m w = k0_pay8 x m w := rfl
theorem sum_two (m s : FVec Ideal S512x1 .f32) : k0_pay14 x m s w = k0_pay9 x m s w := rfl
theorem sum_three (m s : FVec Ideal S512x1 .f32) : k0_pay18 x m s w = k0_pay9 x m s w := rfl
theorem max_sent (m : FVec Ideal S512x1 .f32) (r : Fin 512) : k0_pay24 x m w (ix2 0 r) = k0_pay8 x m w (ix2 r 0) := by
  show shapeCast S1x512 (transpose S1x512 [1, 0] (k0_pay8 x m w) transposes_S512x1_p1_0_S1x512) shapeCasts_S1x512_S1x512 (ix2 0 r) = _
  rw [shapeCast_self]
  exact transpose_ix2_apply _ _ _ _
theorem sum_sent (m s : FVec Ideal S512x1 .f32) (r : Fin 512) : k0_pay25 x m s w (ix2 0 r) = k0_pay9 x m s w (ix2 r 0) := by
  show shapeCast S1x512 (transpose S1x512 [1, 0] (k0_pay9 x m s w) transposes_S512x1_p1_0_S1x512) shapeCasts_S1x512_S1x512 (ix2 0 r) = _
  rw [shapeCast_self]
  exact transpose_ix2_apply _ _ _ _

theorem max_apply (m : FVec Ideal S512x1 .f32) (r : Fin 512) :
    k0_pay8 x m w (ix2 r 0) = stepM (m (ix2 r 0)) fun j : Fin 1024 => k0_pay7 x w (ix2 r j) := by
  show max (m (ix2 r 0)) (shapeCast S512x1 (multiReduction .maximumf [1] S512 (k0_pay7 x w) 0xFF800000#32 reduces_S512x1024_S512 (.inl rfl) rfl)
    shapeCasts_S512_S512x1 (ix2 r 0)) = _
  rw [shapeCast_a_a1_apply, max_row]
  rfl

theorem sum_apply (m s : FVec Ideal S512x1 .f32) (r : Fin 512) :
    k0_pay9 x m s w (ix2 r 0) = stepS (m (ix2 r 0)) (s (ix2 r 0)) fun j : Fin 1024 => k0_pay7 x w (ix2 r j) := by
  show s (ix2 r 0) * Ideal.exp (m (ix2 r 0) - k0_pay8 x m w (ix2 r 0))
    + shapeCast S512x1 (multiReduction .add [1] S512 (exp (subf (k0_pay7 x w) (broadcastTo S512x1024 (k0_pay8 x m w) broadcasts_S512x1_S512x1024)))
        0x00000000#32 reduces_S512x1024_S512 (.inl rfl) rfl) shapeCasts_S512_S512x1 (ix2 r 0) = _
  rw [shapeCast_a_a1_apply, sum_row]
  unfold stepS esum
  rw [← max_apply]
  refine congrArg (_ + ·) (Finset.sum_congr rfl fun j _ => ?_)
  show Ideal.exp (k0_pay7 x w (ix2 r j) - broadcastTo S512x1024 (k0_pay8 x m w) broadcasts_S512x1_S512x1024 (ix2 r j)) = _
  rw [spread]
end

/-! ## The label's logit -/

/-- The bits a chunk's label test leaves: set where the chunk's first column plus the place is the row's label. -/
def hits (base : BitVec 32) (lab : IVec S512x1 32) : IVec S512x1024 1 :=
  cmpi .eq (addi (iota .tc S512x1024 32 [1] iota_S512x1024_d1_w32) (broadcast S512x1024 base)) (broadcastTo S512x1024 lab broadcasts_S512x1_S512x1024)

/-- The running label sum after a chunk. -/
def pick (t : FVec Ideal S512x1 .f32) (l : FVec Ideal S512x1024 .f32) (h : IVec S512x1024 1) : FVec Ideal S512x1 .f32 :=
  k0_pay11 t l h (Scalar.ofBits .f32 0x00000000#32)

theorem hits_apply (base : BitVec 32) (lab : IVec S512x1 32) (r : Fin 512) (j : Fin 1024) :
    hits base lab (ix2 r j) = BitVec.ofBool (BitVec.ofNat 32 j.val + base == lab (ix2 r 0)) := by
  show BitVec.ofBool (iota .tc S512x1024 32 [1] iota_S512x1024_d1_w32 (ix2 r j) + base == broadcastTo S512x1024 lab broadcasts_S512x1_S512x1024 (ix2 r j)) = _
  rw [spread, iota_single_apply]

theorem pick_apply (t : FVec Ideal S512x1 .f32) (l : FVec Ideal S512x1024 .f32) (h : IVec S512x1024 1) (p : Fin 1024 → Prop) [DecidablePred p]
    (r : Fin 512) (hp : ∀ j, h (ix2 r j) = BitVec.ofBool (decide (p j))) :
    pick t l h (ix2 r 0) = stepT (t (ix2 r 0)) p fun j : Fin 1024 => l (ix2 r j) := by
  show t (ix2 r 0) + shapeCast S512x1 (multiReduction .add [1] S512 (select h l (broadcast S512x1024 (Ideal.ofBits .f32 0x00000000#32)))
        0x00000000#32 reduces_S512x1024_S512 (.inl rfl) rfl) shapeCasts_S512_S512x1 (ix2 r 0) = _
  rw [shapeCast_a_a1_apply, sum_row]
  refine congrArg (_ + ·) (Finset.sum_congr rfl fun j _ => ?_)
  rw [select_apply, hp j]
  by_cases hj : p j
  · rw [if_pos hj, decide_eq_true hj]; exact select_one _ _
  · rw [if_neg hj, decide_eq_false hj]; exact (select_zero _ _).trans Ideal.ofBits_zero_f32

end Cert.Loss

end
-- ==== Proof.Loss.Device.lean ====
/- What each device sends and what it writes out, read at a row over the extended reals, and the value written out when the
   devices hold blocks of one weight and the label is one of its columns. -/
module

public import proofs.«01_k».proof.Proof.Loss.Chunk

@[expose] public section

noncomputable section

namespace Cert.Loss

open Idealize.ShloMosaic Idealize.ShloMosaic.ValueIdx
open Cert.KernelIdeal Cert.KernelIdeal.Gen Cert.KernelIdeal.Xent
open scoped BigOperators

section
variable (I : Ins Ideal) (c : Dev nD) (r : Fin 512)

/-- Row `r` of the logits device `c` takes from its chunk `n`. -/
def lgt (n : Fin 4) (j : Fin 1024) : EReal :=
  ∑ d : Fin 1024, (I.x c (ix2 r d) : EReal) * wbuf c (I.w c) (ix3 n d j)

theorem logits_row (n : Fin 4) (j : Fin 1024) : k0_pay7 (xb I c) (chunk c (I.w c) n) (ix2 r j) = lgt I c r n j := by
  rw [logits_apply]
  refine Finset.sum_congr rfl fun d _ => congrArg (· * _) ?_
  show shapeCast S512x1024 (I.x c) shapeCasts_S512x1024_S512x1024 (ix2 r d) = _
  rw [shapeCast_self]

/-! ## The running maximum and sum -/

theorem m1_row : m1 I c (ix2 r 0) = devM1 k₀ (lgt I c r) := by
  unfold m1
  rw [max_apply]
  simp only [logits_row]
  rfl
theorem m2_row : m2 I c (ix2 r 0) = devM2 k₀ (lgt I c r) := by
  unfold m2
  rw [max_two, max_apply]
  simp only [logits_row, m1_row]
  rfl
theorem m3_row : m3 I c (ix2 r 0) = devM3 k₀ (lgt I c r) := by
  unfold m3
  rw [max_three, max_apply]
  simp only [logits_row, m2_row]
  rfl
theorem rowM_row : rowM I c (ix2 0 r) = devM k₀ (lgt I c r) := by
  unfold rowM
  rw [max_sent, max_apply]
  simp only [logits_row, m3_row]
  rfl

theorem s1_row : s1 I c (ix2 r 0) = devS1 k₀ (lgt I c r) := by
  unfold s1
  rw [sum_apply]
  simp only [logits_row]
  show stepS k₀ (Ideal.ofBits .f32 0x00000000#32) _ = _
  rw [Ideal.ofBits_zero_f32]
  rfl
theorem s2_row : s2 I c (ix2 r 0) = devS2 k₀ (lgt I c r) := by
  unfold s2
  rw [sum_two, sum_apply]
  simp only [logits_row, m1_row, s1_row]
  rfl
theorem s3_row : s3 I c (ix2 r 0) = devS3 k₀ (lgt I c r) := by
  unfold s3
  rw [sum_three, sum_apply]
  simp only [logits_row, m2_row, s2_row]
  rfl
theorem rowS_row : rowS I c (ix2 0 r) = devS k₀ (lgt I c r) := by
  unfold rowS
  rw [sum_sent, sum_apply]
  simp only [logits_row, m3_row, s3_row]
  rfl

/-! ## The label's logit -/

/-- The word of a chunk's first column. -/
def baseWord (n : BitVec 32) : BitVec 32 := Scalar.addi (Scalar.addi (Scalar.muli (meshY c) 8192#32) (colBase c)) n

theorem baseWord_eq (n : Fin 4) : baseWord c (BitVec.ofNat 32 (n.val * 1024)) = BitVec.ofNat 32 (c.val % 2 * 8192 + c.val / 2 * 4096 + n.val * 1024) := by
  revert c n; decide

theorem lb_eq : lb I c = I.lab c := shapeCast_self _ _

/-- The label test of chunk `n` asks whether the place's column of the whole weight is the label. -/
theorem hits_row (n : Fin 4) (q : Fin 16384) (hq : (I.lab c (ix2 r 0) : BitVec 32) = BitVec.ofNat 32 q.val) (j : Fin 1024) :
    hits (baseWord c (BitVec.ofNat 32 (n.val * 1024))) (lb I c) (ix2 r j) = BitVec.ofBool (decide (col c n j = q)) := by
  rw [hits_apply, lb_eq, baseWord_eq]
  refine congrArg BitVec.ofBool ?_
  rw [hq, ← BitVec.ofNat_add]
  have hc := c.isLt
  change c.val < 4 at hc
  rw [Bool.eq_iff_iff, beq_iff_eq, decide_eq_true_iff]
  constructor
  · intro h
    have h := congrArg BitVec.toNat h
    rw [BitVec.toNat_ofNat, BitVec.toNat_ofNat] at h
    apply Fin.ext
    show c.val % 2 * 8192 + c.val / 2 * 4096 + n.val * 1024 + j.val = q.val
    omega
  · intro h
    have h : c.val % 2 * 8192 + c.val / 2 * 4096 + n.val * 1024 + j.val = q.val := congrArg Fin.val h
    congr 1
    omega

section
variable (q : Fin 16384) (hq : (I.lab c (ix2 r 0) : BitVec 32) = BitVec.ofNat 32 q.val)
include hq

theorem t1_row : t1 I c (ix2 r 0) = stepT 0 (fun j => col c 0 j = q) (lgt I c r 0) := by
  refine (pick_apply k0_pay6 (k0_pay7 (xb I c) (chunk c (I.w c) 0)) (hits (baseWord c 0#32) (lb I c)) _ r (hits_row I c r 0 q hq)).trans ?_
  simp only [logits_row]
  show stepT (Ideal.ofBits .f32 0x00000000#32) _ _ = _
  rw [Ideal.ofBits_zero_f32]
theorem t2_row : t2 I c (ix2 r 0) = stepT (stepT 0 (fun j => col c 0 j = q) (lgt I c r 0)) (fun j => col c 1 j = q) (lgt I c r 1) := by
  refine (pick_apply (t1 I c) (k0_pay7 (xb I c) (chunk c (I.w c) 1)) (hits (baseWord c 1024#32) (lb I c)) _ r (hits_row I c r 1 q hq)).trans ?_
  simp only [logits_row, t1_row I c r q hq]
theorem t3_row : t3 I c (ix2 r 0)
    = stepT (stepT (stepT 0 (fun j => col c 0 j = q) (lgt I c r 0)) (fun j => col c 1 j = q) (lgt I c r 1)) (fun j => col c 2 j = q) (lgt I c r 2) := by
  refine (pick_apply (t2 I c) (k0_pay7 (xb I c) (chunk c (I.w c) 2)) (hits (baseWord c 2048#32) (lb I c)) _ r (hits_row I c r 2 q hq)).trans ?_
  simp only [logits_row, t2_row I c r q hq]
theorem rowT_row : rowT I c (ix2 0 r) = devT (fun n j => col c n j = q) (lgt I c r) := by
  have e : rowT I c (ix2 0 r) = pick (t3 I c) (k0_pay7 (xb I c) (chunk c (I.w c) 3)) (hits (baseWord c 3072#32) (lb I c)) (ix2 r 0) := by
    show shapeCast S1x512 (transpose S1x512 [1, 0] (pick (t3 I c) (k0_pay7 (xb I c) (chunk c (I.w c) 3)) (hits (baseWord c 3072#32) (lb I c)))
      transposes_S512x1_p1_0_S1x512) shapeCasts_S1x512_S1x512 (ix2 0 r) = _
    rw [shapeCast_self]
    exact transpose_ix2_apply _ _ _ _
  refine e.trans ((pick_apply _ _ _ _ r (hits_row I c r 3 q hq)).trans ?_)
  simp only [logits_row, t3_row I c r q hq]
  rfl
end

/-! ## The row written out -/

theorem slot_row (k j : Fin 3) (h : S1x1x512.ShapeCasts S1x512) :
    shapeCast S1x512 (slotRow I c k j) h (ix2 0 r) = stats I (peer k c) (ix2 j r) :=
  shapeCast_1ab_ab_apply (slotRow I c k j) h 0 r

theorem stats_M (d : Dev nD) : stats I d (ix2 (0 : Fin 3) r) = rowM I d (ix2 0 r) := rfl
theorem stats_S (d : Dev nD) : stats I d (ix2 (1 : Fin 3) r) = rowS I d (ix2 0 r) := rfl
theorem stats_T (d : Dev nD) : stats I d (ix2 (2 : Fin 3) r) = rowT I d (ix2 0 r) := rfl

theorem slot27 (k j : Fin 3) : k0_pay27 (slotRow I c k j) (ix2 0 r) = stats I (peer k c) (ix2 j r) := slot_row I c r k j _

/-- The common bound. -/
theorem top_row : k0_pay33 (myRow I c 0) (k0_pay27 (slotRow I c 0 0)) (k0_pay28 (slotRow I c 1 0)) (k0_pay29 (slotRow I c 2 0)) (ix2 0 r)
    = allM (fun i => rowM I i (ix2 0 r)) c (peer 0 c) (peer 1 c) (peer 2 c) := by
  show max (max (stats I c (ix2 (0 : Fin 3) r)) (k0_pay27 (slotRow I c 0 0) (ix2 0 r)))
    (max (k0_pay27 (slotRow I c 1 0) (ix2 0 r)) (k0_pay27 (slotRow I c 2 0) (ix2 0 r))) = _
  rw [slot27, slot27, slot27]
  rfl

/-- The payload of the four sums, at an index. -/
theorem four_apply (m a b d s : FVec Ideal S1x512 .f32) (sa sb : FVec Ideal S1x512 .f32) (sd : Vec Ideal S1x1x512 .f32) (i : S1x512.Idx) :
    k0_pay34 m a b d s sa sb sd i
      = (Ideal.ofBits .f32 0x00000000#32 + (s i : EReal) * Ideal.exp ((m i : EReal) - k0_pay33 m a b d i) + (sa i : EReal) * Ideal.exp ((a i : EReal) - k0_pay33 m a b d i)
        + (sb i : EReal) * Ideal.exp ((b i : EReal) - k0_pay33 m a b d i) + (k0_pay27 sd i : EReal) * Ideal.exp ((d i : EReal) - k0_pay33 m a b d i) : EReal) := rfl

/-- The payload of the loss, at an index. -/
theorem loss_apply (t4 mx sm t : FVec Ideal S1x512 .f32) (i : S1x512.Idx) :
    k0_pay1 t4 mx sm t i = ((mx i : EReal) + Ideal.log (sm i) - ((t i : EReal) + t4 i) : EReal) := rfl

/-- The payload of the first three label sums, at an index. -/
theorem labels_apply (t : FVec Ideal S1x512 .f32) (a b : Vec Ideal S1x1x512 .f32) (i : S1x512.Idx) :
    k0_pay35 t a b i = ((t i : EReal) + k0_pay27 a i + k0_pay27 b i : EReal) := rfl

/-- The four sums under the common bound. -/
theorem all_row : k0_pay34 (myRow I c 0) (k0_pay27 (slotRow I c 0 0)) (k0_pay28 (slotRow I c 1 0)) (k0_pay29 (slotRow I c 2 0))
      (myRow I c 1) (k0_pay30 (slotRow I c 0 1)) (k0_pay31 (slotRow I c 1 1)) (slotRow I c 2 1) (ix2 0 r)
    = allS (fun i => rowM I i (ix2 0 r)) (fun i => rowS I i (ix2 0 r)) c (peer 0 c) (peer 1 c) (peer 2 c) := by
  rw [four_apply, top_row, Ideal.ofBits_zero_f32]
  have h28 : k0_pay28 (slotRow I c 1 0) (ix2 0 r) = stats I (peer 1 c) (ix2 0 r) := slot27 I c r 1 0
  have h29 : k0_pay29 (slotRow I c 2 0) (ix2 0 r) = stats I (peer 2 c) (ix2 0 r) := slot27 I c r 2 0
  have h30 : k0_pay30 (slotRow I c 0 1) (ix2 0 r) = stats I (peer 0 c) (ix2 1 r) := slot27 I c r 0 1
  have h31 : k0_pay31 (slotRow I c 1 1) (ix2 0 r) = stats I (peer 1 c) (ix2 1 r) := slot27 I c r 1 1
  rw [h28, h29, h30, h31, slot27, slot27]
  rfl

theorem out_row : outRow I c (ix2 0 r)
    = allM (fun i => rowM I i (ix2 0 r)) c (peer 0 c) (peer 1 c) (peer 2 c)
      + Ideal.log (allS (fun i => rowM I i (ix2 0 r)) (fun i => rowS I i (ix2 0 r)) c (peer 0 c) (peer 1 c) (peer 2 c))
      - (rowT I c (ix2 0 r) + rowT I (peer 0 c) (ix2 0 r) + rowT I (peer 1 c) (ix2 0 r) + rowT I (peer 2 c) (ix2 0 r)) := by
  unfold outRow
  have h32 : k0_pay32 (slotRow I c 2 2) (ix2 0 r) = stats I (peer 2 c) (ix2 2 r) := slot27 I c r 2 2
  rw [loss_apply, top_row, all_row, labels_apply, slot27, slot27, h32]
  rfl

theorem peers_four : Four c (peer 0 c) (peer 1 c) (peer 2 c) := by
  revert c; unfold Four; decide
end

/-! ## The value written out -/

/-- What a row of the loss is: the log-sum-exp of the row's logits less the label's. -/
def rowLoss (x : S512x1024.Idx → EReal) (w : (⟨2, ![1024, 16384]⟩ : Shape).Idx → EReal) (r : Fin 512) (q : Fin 16384) : EReal :=
  let l : Fin 16384 → EReal := fun p => ∑ d : Fin 1024, x (ix2 r d) * w (ix2 d p)
  rmax l + Ideal.log (0 + esum l (rmax l)) - l q

/-- Every device writes out the loss of the whole row: `w` is the whole weight, of which device `c` holds the half of the
    columns its second mesh coordinate names. -/
theorem out_loss (I : Ins Ideal) (x : S512x1024.Idx → EReal) (w : (⟨2, ![1024, 16384]⟩ : Shape).Idx → EReal) (r : Fin 512) (q : Fin 16384)
    (hx : ∀ c, I.x c = x)
    (hw : ∀ (c : Dev nD) (d : Fin 1024) (p : Fin 8192), (I.w c (ix2 d p) : EReal) = w (ix2 d ⟨c.val % 2 * 8192 + p.val, by omega⟩))
    (hq : ∀ c, (I.lab c (ix2 r 0) : BitVec 32) = BitVec.ofNat 32 q.val) (c : Dev nD) :
    outRow I c (ix2 0 r) = rowLoss x w r q := by
  have hl : ∀ i, lgt I i r = fun n j => (fun p => ∑ d : Fin 1024, x (ix2 r d) * w (ix2 d p)) (col i n j) := by
    intro i
    funext n j
    refine Finset.sum_congr rfl fun d _ => ?_
    rw [hx i]
    refine congrArg (x (ix2 r d) * ·) ((hw i d _).trans (congrArg w (congrArg (ix2 d) (Fin.ext ?_))))
    show i.val % 2 * 8192 + (i.val / 2 * 4096 + n.val * 1024 + j.val) = i.val % 2 * 8192 + i.val / 2 * 4096 + n.val * 1024 + j.val
    omega
  obtain ⟨k, hk⟩ := k₀_real
  rw [out_row]
  simp only [rowM_row, rowS_row, rowT_row I _ r q (hq _), hl, hk]
  exact loss_eq (peers_four c) k (fun p => ∑ d : Fin 1024, x (ix2 r d) * w (ix2 d p)) q

end Cert.Loss

end
-- ==== Proof.Loss.Ref.lean ====
/- The reference's result read at a row, over the extended reals, when the row's label is a column of the weight. -/
module

public import proofs.«01_k».proof.Proof.Gen.ReferenceIdeal.Run
public import proofs.«01_k».proof.Proof.Loss.Device
public import Idealize.ShloMosaic.Lib.StackMember

@[expose] public section

noncomputable section

namespace Cert.Loss.Ref

open Idealize.ShloMosaic Idealize.ShloMosaic.ValueIdx
open Cert.ReferenceIdeal Cert.ReferenceIdeal.Gen
open scoped BigOperators

/-! ## The pieces of the result -/

section
variable (x : FVec Ideal S512x1024 .f32) (w : FVec Ideal S1024x16384 .f32) (lab : IVec S512 32)

def logits : FVec Ideal S512x16384 .f32 := Host.dotGeneral dot_S512x1024_S1024x16384_S512x16384_1_0_0_1_n_n none x w
def rowMax : FVec Ideal S512 .f32 := Host.reduce FloatOps.maximumf (logits x w) (constant S_ .f32 0xFF800000#32) reducesTo_S512x16384_S512_d1 h_S_
def maxCol : FVec Ideal S512x1 .f32 := broadcastInDim S512x1 ![0] bcast_S512_S512x1_0 (rowMax x w)
def terms : FVec Ideal S512x16384 .f32 :=
  Host.exp (subf (logits x w) (broadcastInDim S512x16384 ![0, 1] bcast_S512x1_S512x16384_0_1 (maxCol x w)))
def rowSum : FVec Ideal S512 .f32 := Host.reduceAdd (terms x w) (constant S_ .f32 0x00000000#32) reducesTo_S512x16384_S512_d1 h_S_
def lse : FVec Ideal S512 .f32 :=
  shapeCast S512 (addf (maxCol x w) (Host.log (broadcastInDim S512x1 ![0] bcast_S512_S512x1_0 (rowSum x w)))) shapeCasts_S512x1_S512
/-- An index counted from the end when it is negative. -/
def wrapped (v : IVec S512 32) (n : BitVec 32) : IVec S512 32 :=
  select (cmpi .slt v (broadcastInDim S512 ![] bcast_S_S512 (constantI S_ 32 0#32))) (addi v (broadcastInDim S512 ![] bcast_S_S512 (constantI S_ 32 n))) v
def places : IVec S512x2 32 :=
  concatenate S512x2 1 [⟨S512x1, broadcastInDim S512x1 ![0] bcast_S512_S512x1_0 (wrapped (iotaInDim S512 32 0) 512#32)⟩,
    ⟨S512x1, broadcastInDim S512x1 ![0] bcast_S512_S512x1_0 (wrapped lab 16384#32)⟩] concatenates_S512x1_S512x1_S512x2_d1
/-- The reference's result. -/
def result : FVec Ideal S512 .f32 :=
  subf (lse x w) (Host.gather gather_S512x16384_S512x2_S512_n_01_n_n_01_1_11 (logits x w) (places lab))

/-! ## Each at an index -/

theorem logits_apply (r : Fin 512) (p : Fin 16384) : logits x w (ix2 r p) = ∑ d : Fin 1024, (x (ix2 r d) : EReal) * w (ix2 d p) :=
  StackMember.dotGeneral_plain_apply none x w r p

theorem reduces_row : S512x16384.Reduces [1] S512 := by decide

theorem lift_row (r : Fin 512) (p : Fin 16384) : reduces_row.lift (ix1 r) p = (ix2 r p : S512x16384.Idx) := by
  funext a; apply Fin.ext
  match a with
  | ⟨0, _⟩ => rfl
  | ⟨1, _⟩ => rfl

theorem rowMax_apply (r : Fin 512) : rowMax x w (ix1 r) = rmax fun p : Fin 16384 => logits x w (ix2 r p) := by
  unfold rowMax
  rw [Host.reduce_eq_fold_single FloatOps.maximumf (logits x w) _ _ reduces_row]
  refine Eq.trans ?_ (fold_max _)
  show Finset.fold max (Ideal.ofBits .f32 0xFF800000#32) _ _ = _
  rw [neg_inf]
  exact congrArg (Finset.fold max ⊥ · _) (funext fun p => congrArg (logits x w) (lift_row r p))

/-- A vector spread over one column. -/
theorem column {α : Type} (v : S512.Idx → α) (r : Fin 512) (u : Fin 1) :
    broadcastInDim S512x1 ![0] bcast_S512_S512x1_0 v (ix2 r u) = v (ix1 r) :=
  broadcastInDim_apply _ _ _ _ _ fun a => by match a with | ⟨0, _⟩ => rfl

theorem spread {α : Type} (v : S512x1.Idx → α) (r : Fin 512) (p : Fin 16384) :
    broadcastInDim S512x16384 ![0, 1] bcast_S512x1_S512x16384_0_1 v (ix2 r p) = v (ix2 r 0) :=
  broadcastInDim_apply _ _ _ _ _ fun a => by
    match a with
    | ⟨0, _⟩ => rfl
    | ⟨1, _⟩ => rfl

theorem terms_apply (r : Fin 512) (p : Fin 16384) :
    terms x w (ix2 r p) = Ideal.exp (logits x w (ix2 r p) - rmax fun p : Fin 16384 => logits x w (ix2 r p)) := by
  show Ideal.exp (logits x w (ix2 r p) - broadcastInDim S512x16384 ![0, 1] bcast_S512x1_S512x16384_0_1 (maxCol x w) (ix2 r p)) = _
  rw [spread]
  unfold maxCol
  rw [column, rowMax_apply]

theorem rowSum_apply (r : Fin 512) :
    rowSum x w (ix1 r) = (0 + esum (fun p : Fin 16384 => logits x w (ix2 r p)) (rmax fun p : Fin 16384 => logits x w (ix2 r p)) : EReal) := by
  refine (Ideal.hostReduceAdd_single reducesTo_S512x16384_S512_d1 reduces_row (terms x w) (Ideal.ofBits .f32 0x00000000#32) (ix1 r)).trans ?_
  rw [Ideal.ofBits_zero_f32]
  refine congrArg (0 + ·) (Finset.sum_congr rfl fun p _ => ?_)
  exact (congrArg (terms x w) (lift_row r p)).trans (terms_apply x w r p)

theorem shapeCast_col {α : Type} (v : S512x1.Idx → α) (h : S512x1.ShapeCasts S512) (r : Fin 512) : shapeCast S512 v h (ix1 r) = v (ix2 r 0) :=
  shapeCast_apply v h _ _ (by
    rw [Shape.rowMajor_val_two, Shape.rowMajor_val_one]
    show r.val * 1 + 0 = r.val
    omega)

theorem add_log (a b : FVec Ideal S512x1 .f32) (i : S512x1.Idx) : addf a (Host.log b) i = ((a i : EReal) + Ideal.log (b i) : EReal) := rfl
theorem sub_at (a b : FVec Ideal S512 .f32) (i : S512.Idx) : subf a b i = ((a i : EReal) - b i : EReal) := rfl

theorem lse_apply (r : Fin 512) :
    lse x w (ix1 r) = (rowMax x w (ix1 r) + Ideal.log (rowSum x w (ix1 r)) : EReal) := by
  unfold lse
  rw [shapeCast_col, add_log]
  unfold maxCol
  rw [column, column]

theorem wrapped_apply (v : IVec S512 32) (n : BitVec 32) (r : Fin 512) (q : ℕ) (hq : q < 16384) (h : v (ix1 r) = BitVec.ofNat 32 q) :
    wrapped v n (ix1 r) = BitVec.ofNat 32 q := by
  have hs : (BitVec.ofNat 32 q).slt 0#32 = false := by
    rw [BitVec.slt_eq_decide, decide_eq_false_iff_not, BitVec.toInt_ofNat', show (0#32).toInt = 0 from rfl]
    simp only [Int.bmod]
    omega
  show Scalar.select (BitVec.ofBool ((v (ix1 r)).slt 0#32)) _ (v (ix1 r)) = _
  rw [h, hs]
  rfl

theorem pair_left {α : Type} (a b : S512x1.Idx → α) (r : Fin 512) :
    concatenate S512x2 1 [⟨S512x1, a⟩, ⟨S512x1, b⟩] concatenates_S512x1_S512x1_S512x2_d1 (ix2 r 0) = a (ix2 r 0) :=
  concatenate_pair_apply_left (t := S512x2) (s₁ := S512x1) (s₂ := S512x1) 1 a b concatenates_S512x1_S512x1_S512x2_d1 (ix2 r 0) rfl (ix2 r 0)
    fun c => by match c with | ⟨0, _⟩ => rfl | ⟨1, _⟩ => rfl

theorem pair_right {α : Type} (a b : S512x1.Idx → α) (r : Fin 512) :
    concatenate S512x2 1 [⟨S512x1, a⟩, ⟨S512x1, b⟩] concatenates_S512x1_S512x1_S512x2_d1 (ix2 r 1) = b (ix2 r 0) :=
  concatenate_pair_apply_right (t := S512x2) (s₁ := S512x1) (s₂ := S512x1) 1 a b concatenates_S512x1_S512x1_S512x2_d1 (ix2 r 1) rfl rfl (ix2 r 0)
    (fun c hc => by match c with | ⟨0, _⟩ => rfl | ⟨1, _⟩ => exact absurd rfl hc) (by show 0 + 1 = 1; rfl)

theorem places_row (r : Fin 512) : places lab (ix2 r 0) = BitVec.ofNat 32 r.val := by
  unfold places
  rw [pair_left, column]
  exact wrapped_apply _ _ r r.val (by omega) rfl

theorem places_col (r : Fin 512) (q : Fin 16384) (hq : lab (ix1 r) = BitVec.ofNat 32 q.val) : places lab (ix2 r 1) = BitVec.ofNat 32 q.val := by
  unfold places
  rw [pair_right, column]
  exact wrapped_apply _ _ r q.val q.isLt hq

/-! ## The label's logit picked out -/

theorem clamp (q n : ℕ) (h : q ≤ n) (hn : n < 16384) : min (BitVec.ofNat 32 q).toInt.toNat n = q := by
  rw [BitVec.toInt_ofNat']
  simp only [Int.bmod]
  omega

theorem picked (v : S512x16384.Idx → EReal) (idx : IVec S512x2 32) (r : Fin 512) (q : Fin 16384)
    (h0 : idx (ix2 r 0) = BitVec.ofNat 32 r.val) (h1 : idx (ix2 r 1) = BitVec.ofNat 32 q.val) :
    Host.gather gather_S512x16384_S512x2_S512_n_01_n_n_01_1_11 v idx (ix1 r) = v (ix2 r q) := by
  unfold Host.gather
  congr 1
  funext a
  refine Fin.ext ?_
  show gather_S512x16384_S512x2_S512_n_01_n_n_01_1_11.start (ix1 r) idx a + gather_S512x16384_S512x2_S512_n_01_n_n_01_1_11.batchCoord (ix1 r) a
    + gather_S512x16384_S512x2_S512_n_01_n_n_01_1_11.offCoord (ix1 r) a = _
  have ha : a ∈ gather_S512x16384_S512x2_S512_n_01_n_n_01_1_11.startIndexMap := by
    show a ∈ ([0, 1] : List (Fin 2))
    match a with
    | ⟨0, _⟩ => simp
    | ⟨1, _⟩ => simp
  rw [GatherDims.batchCoord_eq_zero _ _ _ List.not_mem_nil,
    GatherDims.offCoord_eq_zero _ _ _ (fun h => ((GatherDims.mem_sKept _ _).mp h).1 ha)]
  simp only [Nat.add_zero]
  unfold GatherDims.start
  rw [dif_pos ha]
  match a with
  | ⟨0, _⟩ =>
    have e : gather_S512x16384_S512x2_S512_n_01_n_n_01_1_11.siIdx (ix1 r) ⟨List.idxOf (0 : Fin 2) gather_S512x16384_S512x2_S512_n_01_n_n_01_1_11.startIndexMap,
        List.idxOf_lt_length_iff.2 ha⟩ = ix2 r 0 := by
      funext b; refine Fin.ext ?_
      match b with
      | ⟨0, _⟩ => rfl
      | ⟨1, _⟩ => rfl
    refine (congrArg (fun i => min (idx i).toInt.toNat 511) e).trans ?_
    show min (idx (ix2 r 0)).toInt.toNat 511 = r.val
    rw [h0]
    exact clamp _ _ (by omega) (by omega)
  | ⟨1, _⟩ =>
    have e : gather_S512x16384_S512x2_S512_n_01_n_n_01_1_11.siIdx (ix1 r) ⟨List.idxOf (1 : Fin 2) gather_S512x16384_S512x2_S512_n_01_n_n_01_1_11.startIndexMap,
        List.idxOf_lt_length_iff.2 ha⟩ = ix2 r 1 := by
      funext b; refine Fin.ext ?_
      match b with
      | ⟨0, _⟩ => rfl
      | ⟨1, _⟩ => rfl
    refine (congrArg (fun i => min (idx i).toInt.toNat 16383) e).trans ?_
    show min (idx (ix2 r 1)).toInt.toNat 16383 = q.val
    rw [h1]
    exact clamp _ _ (by omega) (by omega)

/-- The reference's row is the row's loss. -/
theorem result_apply (r : Fin 512) (q : Fin 16384) (hq : lab (ix1 r) = BitVec.ofNat 32 q.val) : result x w lab (ix1 r) = rowLoss x w r q := by
  have hl : ∀ p : Fin 16384, logits x w (ix2 r p) = (fun p : Fin 16384 => ∑ d : Fin 1024, (x (ix2 r d) : EReal) * w (ix2 d p)) p :=
    logits_apply x w r
  unfold result rowLoss
  rw [sub_at, lse_apply, rowMax_apply, rowSum_apply, picked (logits x w) (places lab) r q (places_row lab r) (places_col lab r q hq), funext hl, hl]
end

end Cert.Loss.Ref

end
-- ==== Proof.Loss.Algebraic.lean ====
/- The kernel on four devices and the reference on one end with the same losses. -/
module

public import proofs.«01_k».proof.Proof.Loss.Ref
public import proofs.«01_k».proof.Proof.Xent.Frames
public import Idealize.ShloMosaic.Lib.Layout

@[expose] public section

noncomputable section

namespace Cert.Proof

open Idealize.ShloMosaic Idealize.ShloMosaic.TcCoe Idealize.SL.Sem Idealize.ShloMosaic.ValueIdx Idealize.ShloMosaic.StableHlo
open Cert.Loss

/-- The facts the precondition states, of the kernel's argument arrays and of the reference's. -/
theorem facts_pre : Cert.Pre_labels_in_vocabulary_KernelIdeal.Facts := ⟨by decide⟩
theorem facts_pre_ref : Cert.Pre_labels_in_vocabulary_ReferenceIdeal.Facts := ⟨by decide⟩

/-! ## The frames under the precondition: the same runs -/

theorem frame_kernelIdeal_pre : Cert.quiescent_KernelIdeal_pre_labels_in_vocabulary_KernelIdeal (hKernelIdeal := Cert.KernelIdeal.Gen.facts)
    (hPre_labels_in_vocabulary_KernelIdeal := facts_pre) := fun m ρ _ => frame_kernelIdeal m ρ trivial
theorem frame_referenceIdeal_pre : Cert.quiescent_ReferenceIdeal_pre_labels_in_vocabulary_ReferenceIdeal (hReferenceIdeal := Cert.ReferenceIdeal.Gen.facts)
    (hPre_labels_in_vocabulary_ReferenceIdeal := facts_pre_ref) := fun m ρ _ => frame_referenceIdeal m ρ trivial

/-! ## The labels -/

/-- A word that passes both tests is a column's number. -/
theorem label_range (v : BitVec 32) (h : BitVec.ofBool ((0#32).sle v) &&& BitVec.ofBool (v.slt 16384#32) = 1#1) :
    ∃ q : Fin 16384, v = BitVec.ofNat 32 q.val := by
  have h1 : (0#32).sle v = true := by
    by_contra e
    rw [Bool.not_eq_true] at e
    rw [e] at h
    revert h
    cases v.slt 16384#32 <;> decide
  have h2 : v.slt 16384#32 = true := by
    by_contra e
    rw [Bool.not_eq_true] at e
    rw [e] at h
    revert h
    cases (0#32).sle v <;> decide
  rw [BitVec.sle_eq_decide, decide_eq_true_iff, show (0#32).toInt = 0 from rfl] at h1
  rw [BitVec.slt_eq_decide, decide_eq_true_iff, show (16384#32).toInt = 16384 from rfl] at h2
  have hv : v.toNat < 16384 := by
    rw [BitVec.toInt_eq_toNat_cond] at h1 h2
    have := v.isLt
    split at h1 <;> omega
  exact ⟨⟨v.toNat, hv⟩, by simp⟩

theorem label_of_pre (x : FVec Ideal Cert.KernelIdeal.S512x1024 .f32) (w : FVec Ideal Cert.KernelIdeal.S1024x8192 .f32) (lab : IVec Cert.KernelIdeal.S512 32)
    (h : (letI := facts_pre; Cert.Pre_labels_in_vocabulary_KernelIdeal.fn (F := Ideal) x w lab) = fun _ => 1#1) (r : Fin 512) :
    ∃ q : Fin 16384, lab (ix1 r) = BitVec.ofNat 32 q.val :=
  label_range _ (congrFun h (ix1 r))

/-! ## The kernel's buffers -/

section
open Cert.KernelIdeal Cert.KernelIdeal.Gen Cert.KernelIdeal.Xent
variable (m : (ℓ : Loc nD τ sig) → Buf (Elt Ideal) ℓ) (c : Dev nD)

theorem labels_column (r : Fin 512) : (ins m).lab c (ix2 r 0) = m ((c.tc : Thread nD τ).loc main_arg2) (ix1 r) := by
  have e : V₁ m c main_v1 = shapeCast S512x1 (m ((c.tc : Thread nD τ).loc main_arg2)) shapeCasts_S512_S512x1 := by
    after_results_simp <;> rfl
  show V₁ m c main_v1 (ix2 r 0) = _
  rw [e]
  exact shapeCast_a_a1_apply _ _ r 0

theorem result_row (r : Fin 512) : V₃ m c main_v3 (ix1 r) = outRow (ins m) c (ix2 0 r) := by
  have e : V₃ m c main_v3 = shapeCast S512 (outRow (ins m) c) shapeCasts_S1x512_S512 := by
    after_results_simp <;> rfl
  rw [e]
  exact shapeCast_1a_a_apply _ _ r

theorem x_eq : (ins m).x c = m ((c.tc : Thread nD τ).loc main_arg0) := V₁_of_ne m c main_arg0 (by decide)
theorem w_eq : (ins m).w c = m ((c.tc : Thread nD τ).loc main_arg1) := V₁_of_ne m c main_arg1 (by decide)
end

/-- A device's block of the weight: the half of the columns its second mesh coordinate names. -/
theorem block_apply {α : Type} (w : (⟨2, ![1024, 16384]⟩ : Shape).Idx → α) (c : Fin 4) (d : Fin 1024) (p : Fin 8192) :
    (Layout.blockN ⟨2, ![1024, 8192]⟩ ⟨2, ![1024, 16384]⟩ (Layout.meshBlock [2, 2] ![[], [1]] c) w) (ix2 d p)
      = w (ix2 d ⟨c.val % 2 * 8192 + p.val, by omega⟩) := by
  rw [Layout.blockN_apply]
  refine congrArg w (funext fun a => Fin.ext ?_)
  rw [Layout.TilesN.idx_val]
  match a with
  | ⟨0, _⟩ => show 0 * 1024 + d.val = d.val; omega
  | ⟨1, _⟩ => show (c.val / 1 % 2 * 1 + 0) * 8192 + p.val = c.val % 2 * 8192 + p.val; omega

/-- THE VALUE CLAIM: with every label a column of the weight, each device's result is the reference's. -/
theorem algebraic : Cert.algebraic_KernelIdeal_ReferenceIdeal_pre_labels_in_vocabulary_KernelIdeal (hKernelIdeal := Cert.KernelIdeal.Gen.facts)
    (hReferenceIdeal := Cert.ReferenceIdeal.Gen.facts) (hPre_labels_in_vocabulary_KernelIdeal := facts_pre) := by
  intro m ρ m' ρ' hpre hag
  refine ⟨Ref.result (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2)), ?_, ?_⟩
  · refine (θ_run Cert.KernelIdeal.defs _ _).mono (fun σ h c => ?_) (Cert.KernelIdeal.Xent.run_main (F := Ideal) m ρ)
    obtain ⟨h0, h1, h2, h3⟩ := h.1 c
    refine ⟨h3.trans (funext fun t => ?_), h0, h1, h2⟩
    obtain ⟨r, rfl⟩ : ∃ r : Fin 512, t = ix1 r := ⟨t 0, eq_ix1 t⟩
    obtain ⟨q, hq⟩ := label_of_pre _ _ _ (hpre 0) r
    rw [(hag 0).2.2] at hq
    refine (result_row m c r).trans ((out_loss _ _ _ r q (fun i => (x_eq m i).trans (hag i).1) (fun i d p => ?_) (fun i => ?_) c).trans
      (Ref.result_apply _ _ _ r q hq).symm)
    · rw [w_eq m i, (hag i).2.1]
      exact block_apply _ i d p
    · exact (labels_column m i r).trans ((congrFun (hag i).2.2 (ix1 r)).trans hq)
  · exact (θ_run Cert.ReferenceIdeal.defs _ _).mono (fun _ h => h 0) (Cert.ReferenceIdeal.Value.run (F := Ideal) m' ρ')

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Xent.Frames
public import proofs.«01_k».proof.Proof.Loss.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, facts_pre, facts_pre_ref,
  frame_kernel, frame_kernelIdeal, frame_kernelIdeal_pre, frame_referenceIdeal, frame_referenceIdeal_pre, trivial, algebraic⟩

end Cert.Proof

end
